-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S8x1024 : Shape := ⟨2, ![8, 1024]⟩
abbrev S16 : Shape := ⟨1, ![16]⟩
abbrev S_ : Shape := ⟨0, ![]⟩
abbrev S1 : Shape := ⟨1, ![1]⟩
abbrev S256x1024 : Shape := ⟨2, ![256, 1024]⟩
abbrev S32x8x1024 : Shape := ⟨3, ![32, 8, 1024]⟩
abbrev S1024 : Shape := ⟨1, ![1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024, .bf16⟩
  | .local _ .vmem, ⟨0, _⟩ => ⟨S1x1024, .bf16⟩
  | .local _ .vmem, ⟨1, _⟩ => ⟨S4096x1024, .bf16⟩
  | .local _ .vmem, ⟨2, _⟩ => ⟨S8x1024, .bf16⟩
  | .local _ .vmem, ⟨3, _⟩ => ⟨S1x1024, .bf16⟩
  | .local _ .vmem, ⟨4, _⟩ => ⟨S1x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v72 : BitVec 32 := Scalar.muli v6 c2_i32_55
  let v73 : BitVec 32 := Scalar.addi c0_i32_56 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v74 : BitVec 32 := Scalar.muli v5 c1_i32_57
  let v75 : BitVec 32 := Scalar.addi v73 v74
  v75.toNat
def k0_dev2 (d0 : Dev nD) : Nat :=
  let c0_i32_238 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_237 : BitVec 32 := 2#32
  let v271 : BitVec 32 := Scalar.muli v6 c2_i32_237
  let v272 : BitVec 32 := Scalar.addi c0_i32_238 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_239 : BitVec 32 := 1#32
  let v273 : BitVec 32 := Scalar.muli v5 c1_i32_239
  let v274 : BitVec 32 := Scalar.addi v272 v273
  v274.toNat
abbrev stage0_0 : Fin 1 → Memref sig .tc .vmem S1x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S_, .bf16⟩
  | .hbm, ⟨2, _⟩ => ⟨S2048, .bf16⟩
  | .hbm, ⟨3, _⟩ => ⟨S1x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Chain.lean ====
/-
The kernel's program read as loops over its sixteen chunks of 256 rows: start every chunk's copy, signal the peer,
then chunk by chunk wait, load and fold into the accumulator, and last exchange the column maxima with the peer.
-/
module

public import proofs.«01_k».proof.Proof.Gen.KernelIdeal
public import proofs.«01_k».proof.Proof.Gen.KernelIdeal.Skeleton

@[expose] public section

noncomputable section

namespace Cert.ColMax

open Cert.KernelIdeal Cert.KernelIdeal.Gen
open Idealize.ShloMosaic Idealize.ShloMosaic.TcCoe
open Idealize.SL.Sem

variable {F : FTy → Type} [FloatOps F]

/-! ## The buffers, as the kernel names them -/

/-- The device's block of `x`, in HBM. -/
abbrev xM : Memref sig .tc .hbm S4096x1024 .bf16 := Memref.whole main_arg0
/-- The result's staging buffer. -/
abbrev oM : Memref sig .tc .vmem S1x1024 .bf16 := Memref.whole cc0_stg0_0
/-- The copy of the block in VMEM. -/
abbrev bM : Memref sig .tc .vmem S4096x1024 .bf16 := Memref.whole cc0_scratch0
/-- The accumulator of eight rows. -/
abbrev aM : Memref sig .tc .vmem S8x1024 .bf16 := Memref.whole cc0_scratch1
/-- The buffer sent to the peer. -/
abbrev sM : Memref sig .tc .vmem S1x1024 .bf16 := Memref.whole cc0_scratch2
/-- The buffer the peer's maxima land in. -/
abbrev rM : Memref sig .tc .vmem S1x1024 .bf16 := Memref.whole cc0_scratch3

/-! ## The chunks -/

/-- Every chunk lies inside the block, -/
theorem chunk_inb (k : Fin 16) : ∀ a, (![256 * k.val, 0] : Fin 2 → Nat) a + S256x1024.size a ≤ S4096x1024.size a := by
  revert k; decide
/-- and every copy has a semaphore. -/
theorem copySem_inb (k : Fin 16) : ∀ a, (![k.val] : Fin 1 → Nat) a + S1.size a ≤ S16.size a := by revert k; decide

/-- Chunk `k`: rows `256 k` to `256 k + 255`. -/
abbrev chunk (k : Fin 16) : Rect S4096x1024 := Rect.unit (s := S4096x1024) ![256 * k.val, 0] S256x1024.size (chunk_inb k)
/-- A chunk is made of whole machine words. -/
theorem chunk_words (k : Fin 16) : (chunk k).WholeWords (EltTy.packing .bf16) := by revert k; decide
/-- The semaphore chunk `k`'s copy completes on. -/
abbrev copySem (k : Fin 16) : DmaSem sig :=
  ((cc0_scratch4.slice (Rect.unit (s := S16) ![k.val] S1.size (copySem_inb k))).squeeze S_ squeezes_S1_S_).sem
/-- Chunk `k` of the block of `x`, and of its copy. -/
abbrev xCh (k : Fin 16) : Memref sig .tc .hbm S256x1024 .bf16 := xM.slice (chunk k) (fun _ => rfl)
/-- (The copy in VMEM.) -/
abbrev bCh (k : Fin 16) : Memref sig .tc .vmem S256x1024 .bf16 := bM.slice (chunk k) (fun _ => rfl)
/-- A transfer moves exactly the elements of a chunk of the block, -/
theorem xCh_exact (k : Fin 16) : (xCh k).view.WordExact := (Memref.isWhole_whole main_arg0).wordExact_slice rfl _ (chunk_words k)
/-- and of a chunk of the copy. -/
theorem bCh_exact (k : Fin 16) : (bCh k).view.WordExact := (Memref.isWhole_whole cc0_scratch0).wordExact_slice rfl _ (chunk_words k)

/-- The whole accumulator and the whole row, as the loads and stores name them. -/
abbrev rAcc : Rect S8x1024 := Rect.unit (s := S8x1024) ![0, 0] S8x1024.size inb_S8x1024_S8x1024_0_0
/-- (The row.) -/
abbrev rRow : Rect S1x1024 := Rect.unit (s := S1x1024) ![0, 0] S1x1024.size inb_S1x1024_S1x1024_0_0

/-- The runtime's barrier semaphore of collective id 0. -/
abbrev barS : Sem sig := (SemArray.scalar (sig.barrier 0 rfl) : Sems sig S_).sem
/-- The semaphore that says the own row has left, -/
abbrev sendS : DmaSem sig := cc0_scratch5.sem
/-- and the one that says the peer's row has landed. -/
abbrev recvS : DmaSem sig := cc0_scratch6.sem

/-! ## The values -/

/-- A chunk's contribution: its 32 groups of eight rows, maximised group against group. -/
def red (v : Vec F S256x1024 .bf16) : FVec F S8x1024 .bf16 :=
  multiReduction .maximumf [0] S8x1024 (shapeCast S32x8x1024 v shapeCasts_S256x1024_S32x8x1024) 0xFF80#16 reduces_S32x8x1024_S8x1024 (.inr rfl) rfl
/-- The accumulator after the first chunk, -/
def accFirst (v : Vec F S256x1024 .bf16) : FVec F S8x1024 .bf16 := k0_pay3 v
/-- and after a later one. -/
def accNext (v : Vec F S256x1024 .bf16) (acc : Vec F S8x1024 .bf16) : FVec F S8x1024 .bf16 := k0_pay4 v acc
/-- The row sent: the accumulator's eight rows maximised. -/
def toRow (acc : Vec F S8x1024 .bf16) : FVec F S1x1024 .bf16 := k0_pay1 (k0_pay22 acc)

/-! ## The program -/

local notation "PR" => Prog (TpuEff nD τ sig (Elt F) Λ₀ Proc.tc)

/-- Start chunk `k`'s copy into VMEM, then go on as `p`. -/
def issue (k : Fin 16) (p : PR PUnit) : PR PUnit :=
  .op (.enqueueDma (xCh k) (.here (bCh k)) (.dma (copySem k)) (xCh_exact k) (bCh_exact k) ⟨Or.inl rfl, trivial⟩) fun _ => p
/-- Load the accumulator, whole. -/
def loadAcc (p : Vec F S8x1024 .bf16 → PR PUnit) : PR PUnit :=
  .op (.load aM rAcc.toLoadRect (View.loadsAt_vmem h_S8x1024)) p
/-- Store the accumulator, whole. -/
def storeAcc (v : Vec F S8x1024 .bf16) (p : PR PUnit) : PR PUnit :=
  .op (.store aM rAcc v Finset.univ (View.stores_vmem h_S8x1024 ((Memref.isWhole_whole cc0_scratch1).storeExact_slice rfl _ packedbf16_S8x1024_S8x1024_0_0) (fun _ => rfl)) (.inl rfl)) fun _ => p
/-- Await chunk `k`'s copy and load the chunk. -/
def fetch (k : Fin 16) (p : Vec F S256x1024 .bf16 → PR PUnit) : PR PUnit :=
  .op (.waitDma2 (copySem k) (xCh k) (bCh k) (xCh_exact k) (bCh_exact k)) fun _ =>
    .op (.load bM (chunk k).toLoadRect (View.loadsAt_vmem h_S256x1024)) p
/-- The first chunk's step: fetch, (a load whose value is dropped,) store. -/
def stepFirst (p : PR PUnit) : PR PUnit :=
  fetch 0 fun v => loadAcc fun _ => storeAcc (accFirst v) p
/-- A later chunk's step: fetch, fold into the accumulator. -/
def stepNext (k : Fin 16) (p : PR PUnit) : PR PUnit :=
  fetch k fun v => loadAcc fun acc => loadAcc fun _ => storeAcc (accNext v acc) p

/-- What follows the last chunk: reduce the accumulator to a row, exchange rows with the peer, store the maximum. -/
def exchange (d0 : Dev nD) : PR PUnit :=
  loadAcc fun acc =>
  .op (.load sM rRow.toLoadRect (View.loadsAt_vmem h_S1x1024)) fun _ =>
  .op (.store sM rRow (toRow acc) Finset.univ (View.stores_vmem h_S1x1024 ((Memref.isWhole_whole cc0_scratch2).storeExact_slice rfl _ packedbf16_S1x1024_S1x1024_0_0) (fun _ => rfl)) (.inl rfl)) fun _ =>
  (semWaitWord barS 1#32).bind fun _ =>
  .op (.enqueueDma sM (.remote (Dev.tc (⟨k0_dev2 d0, k0_dev2_lt d0⟩ : Dev nD)) rM (.dma sendS)) (.dma recvS) (Memref.isWhole_whole cc0_scratch2).wordExact (Memref.isWhole_whole cc0_scratch3).wordExact ⟨⟨rfl, Or.inl rfl⟩, trivial⟩) fun _ =>
  .op (.waitDma2 sendS rM sM (Memref.isWhole_whole cc0_scratch3).wordExact (Memref.isWhole_whole cc0_scratch2).wordExact) fun _ =>
  .op (.waitDma2 recvS sM rM (Memref.isWhole_whole cc0_scratch2).wordExact (Memref.isWhole_whole cc0_scratch3).wordExact) fun _ =>
  .op (.load sM rRow.toLoadRect (View.loadsAt_vmem h_S1x1024)) fun v =>
  .op (.load rM rRow.toLoadRect (View.loadsAt_vmem h_S1x1024)) fun w =>
  .op (.load oM rRow.toLoadRect (View.loadsAt_vmem h_S1x1024)) fun _ =>
  .op (.store oM rRow (k0_pay2 v w) Finset.univ (View.stores_vmem h_S1x1024 ((Memref.isWhole_whole cc0_stg0_0).storeExact_slice rfl _ packedbf16_S1x1024_S1x1024_0_0) (fun _ => rfl)) (.inl rfl)) fun _ =>
  .ret ⟨⟩

/-- The whole body. -/
def body : PR PUnit :=
  .op .deviceId fun d0 =>
    (List.finRange 16).foldr issue
      ((semSignalWord (⟨k0_dev1 d0, k0_dev1_lt d0⟩ : Dev nD) barS 1#32).bind fun _ =>
        stepFirst (([1, 2, 3, 4, 5, 6, 7, 8, 9, 10, 11, 12, 13, 14, 15] : List (Fin 16)).foldr stepNext (exchange d0)))

set_option maxRecDepth 65536 in
set_option maxHeartbeats 4000000 in
/-- The kernel's body is that program. -/
theorem body_eq : cc0_body (F := F) xM (Memref.isWhole_whole _) oM (Memref.isWhole_whole _) bM (Memref.isWhole_whole _) aM (Memref.isWhole_whole _)
    sM (Memref.isWhole_whole _) rM (Memref.isWhole_whole _) cc0_scratch4 cc0_scratch5 cc0_scratch6 = body := by
  rw [cc0_body_eq_skeleton]
  rfl

end Cert.ColMax

end
-- ==== Proof.Proto.lean ====
/-
The exchange's protocol. Device `c` and its peer across the mesh's first axis share three kinds of cell under the
rounds library, one duty each: the runtime's barrier semaphore (the peer's signal hands over the peer's landing
buffer), the send semaphore (the own row comes back) and the receive semaphore (the landing buffer holds the peer's
row). The sixteen copies into VMEM run on sixteen semaphores of their own, one transfer each.
-/
module

public import proofs.«01_k».proof.Proof.Chain
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ColMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## The algebra: the staging cells' rounds, the exchange's rounds, the counters of the local copies -/

/-- The exchange's rounds, -/
abbrev UB : Type := URounds (GSem nD τ sig) Unit
/-- and everything together. -/
abbrev UU : Type := UR sig nD τ × (UB × Counters)

local notation "𝕄" => MT nD τ sig Unit (Elt F) ℕ UU ℕ

/-- The staging cells' rounds inside the whole. -/
abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The exchange's rounds lie inside the user's part of the whole. -/
instance ER_landsIn : (ER : Emb UB 𝕄).LandsIn (upEmb : UEmb _ 𝕄) := by unfold ER; infer_instance
/-- The counters inside the whole. -/
abbrev EC : UEmb Counters (MT nD τ sig Unit (Elt F) ℕ UU ℕ) := countersEmb (U := UU)

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The peer -/

/-- The device across the first mesh axis. -/
def peer (c : Dev nD) : Dev nD := c + 2
/-- The peer's peer is the device itself. -/
theorem peer_peer (c : Dev nD) : peer (peer c) = c := by revert c; decide
/-- The device that the signal names is the peer, -/
theorem dev1_eq (c : Dev nD) : (⟨k0_dev1 c, k0_dev1_lt c⟩ : Dev nD) = peer c := by
  refine Fin.ext ((k0_dev1_eq c).trans ?_); revert c; decide
/-- and so is the one that the remote copy names. -/
theorem dev2_eq (c : Dev nD) : (⟨k0_dev2 c, k0_dev2_lt c⟩ : Dev nD) = peer c := by
  refine Fin.ext ((k0_dev2_eq c).trans ?_); revert c; decide
/-- Swapping every device with its peer. -/
def swap : Dev nD ≃ Dev nD := ⟨peer, peer, peer_peer, peer_peer⟩

/-! ## The cells -/

/-- Device `c`'s barrier semaphore, -/
abbrev barCell (c : Dev nD) : GSem nD τ sig := ((c : Thread nD τ), .reg barS)
/-- its send semaphore, -/
abbrev sendCell (c : Dev nD) : GSem nD τ sig := ((c : Thread nD τ), .dma sendS)
/-- its receive semaphore, -/
abbrev recvCell (c : Dev nD) : GSem nD τ sig := ((c : Thread nD τ), .dma recvS)
/-- and the semaphore of its chunk `k`'s copy. -/
abbrev copyCell (c : Dev nD) (k : Fin 16) : GSem nD τ sig := ((c : Thread nD τ), .dma (copySem k))

/-- The exchanged row's credit, and a chunk's. -/
abbrev N : ℕ := rM.view.dmaCredit
/-- The row's credit is positive. -/
theorem N_pos : 0 < N := View.dmaCredit_pos _ (by decide)
/-- The credit of chunk `k`, -/
abbrev NC (k : Fin 16) : ℕ := (bCh k).view.dmaCredit
/-- positive too. -/
theorem NC_pos (k : Fin 16) : 0 < NC k := View.dmaCredit_pos _ (by decide)

/-- The semaphores of the exchange differ from one another, -/
theorem send_ne_bar : (SemLoc.dma sendS : SemLoc sig) ≠ .reg barS := fun h => by cases h
/-- the receive one from the barrier, -/
theorem recv_ne_bar : (SemLoc.dma recvS : SemLoc sig) ≠ .reg barS := fun h => by cases h
/-- the send one from the receive one, -/
theorem send_ne_recv : (SemLoc.dma sendS : SemLoc sig) ≠ .dma recvS := by decide
/-- either way round, -/
theorem recv_ne_send : (SemLoc.dma recvS : SemLoc sig) ≠ .dma sendS := by decide
/-- and from those of the local copies. -/
theorem copy_ne_recv (k : Fin 16) : (SemLoc.dma (copySem k) : SemLoc sig) ≠ .dma recvS := by revert k; decide

/-! ## The contents -/

/-- Device `c`'s block of `x`, -/
def X (c : Dev nD) : main_arg0.ty.Contents (Elt F) := m ((c : Thread nD τ).loc main_arg0)
/-- its chunk `k` (read out of the copy in VMEM), -/
def blk (c : Dev nD) (k : Fin 16) : Vec F S256x1024 .bf16 := bM.view.readAt (Elt F) (chunk k).toLoadRect (X m c)
/-- the accumulator after every chunk, -/
def acc (c : Dev nD) : Vec F S8x1024 .bf16 :=
  ([1, 2, 3, 4, 5, 6, 7, 8, 9, 10, 11, 12, 13, 14, 15] : List (Fin 16)).foldl (fun a k => accNext (blk m c k) a) (accFirst (blk m c 0))
/-- the row it sends, -/
def row (c : Dev nD) : Vec F S1x1024 .bf16 := toRow (acc m c)
/-- and its result: the larger of its row and the peer's, column by column. -/
def out (c : Dev nD) : Vec F S1x1024 .bf16 := k0_pay2 (row m c) (row m (peer c))

/-- Device `c`'s send buffer at contents `f`, -/
def sPts (c : Dev nD) (f : Buf (Elt F) (sM.view.loc (c : Thread nD τ))) : sProp 𝕄 := sM.view.loc (c : Thread nD τ) ↦[sM.view.set]{fullShare} f
/-- and its landing buffer. -/
def rPts (c : Dev nD) (f : Buf (Elt F) (rM.view.loc (c : Thread nD τ))) : sProp 𝕄 := rM.view.loc (c : Thread nD τ) ↦[rM.view.set]{fullShare} f

omit [FloatOps F] in
/-- Both may be stored in an invariant: -/
instance sPts_storable (c : Dev nD) (f) : BI.Storable (upEmb : UEmb _ 𝕄) (sPts (F := F) c f) := by unfold sPts; infer_instance
omit [FloatOps F] in
/-- the send buffer and the landing buffer. -/
instance rPts_storable (c : Dev nD) (f) : BI.Storable (upEmb : UEmb _ 𝕄) (rPts (F := F) c f) := by unfold rPts; infer_instance

omit [FloatOps F] in
/-- The send buffer, held as a whole buffer, -/
theorem sPts_eq (c : Dev nD) (f : Buf (Elt F) ((c : Thread nD τ).loc cc0_scratch2)) :
    sPts c f = (((c : Thread nD τ).loc cc0_scratch2) ↦{fullShare} f : sProp 𝕄) := by
  unfold sPts; rw [show sM.view.set = Finset.univ from View.set_whole _]
omit [FloatOps F] in
/-- and the landing buffer. -/
theorem rPts_eq (c : Dev nD) (f : Buf (Elt F) ((c : Thread nD τ).loc cc0_scratch3)) :
    rPts c f = (((c : Thread nD τ).loc cc0_scratch3) ↦{fullShare} f : sProp 𝕄) := by
  unfold rPts; rw [show rM.view.set = Finset.univ from View.set_whole _]

omit [FloatOps F] in
/-- What a transfer of a whole row leaves in the landing buffer. -/
theorem landed_eq (c : Dev nD) (fd : Buf (Elt F) (rM.view.loc (c : Thread nD τ))) (fs : cc0_scratch2.ty.Contents (Elt F)) :
    rM.view.write (Elt F) fd (sM.view.read (Elt F) fs) Finset.univ = fs := by
  show (View.whole cc0_scratch3).write (Elt F) fd ((View.whole cc0_scratch2).read (Elt F) fs) Finset.univ = fs
  rw [View.read_whole]; exact View.write_whole_univ _ _ _

/-! ## The schedule -/

/-- What the peer's signal hands device `c`: the peer's landing buffer, and that the peer is at round 0 of its receive cell. -/
def barPay (c : Dev nD) : sProp 𝕄 := iprop((∃ f, rPts (peer c) f) ∗ reached ER (recvCell (peer c)) 0)
/-- What the receive cell hands over: the landing buffer with the peer's row. -/
def recvPay (c : Dev nD) : sProp 𝕄 := rPts c (row m (peer c))
/-- What the send cell gives back: the send buffer with the own row. -/
def sendPay (c : Dev nD) : sProp 𝕄 := sPts c (row m c)

/-- Cell `g` is semaphore `s` of some TensorCore. -/
abbrev IsKind (s : SemLoc sig) (g : GSem nD τ sig) : Prop := g.1.2 = .tc ∧ g.2 = s
/-- Cell `g` is one of the three of the exchange. -/
abbrev IsCell (g : GSem nD τ sig) : Prop := g.1.2 = .tc ∧ (g.2 = .reg barS ∨ g.2 = .dma sendS ∨ g.2 = .dma recvS)

/-- One round with one duty on each cell: a unit on a barrier cell, the row's credit on a send or receive cell. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1 else if g.2 = .dma recvS then recvPay m g.1.1 else if g.2 = .dma sendS then sendPay m g.1.1 else iprop(emp)
  amount_pos g _ _ _ := by
    by_cases h : g.2 = .reg barS
    · rw [if_pos h]; exact Nat.one_pos
    · rw [if_neg h]; exact N_pos

/-- Every payload of the schedule may be stored in an invariant. -/
instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS then recvPay m g.1.1
    else if g.2 = .dma sendS then sendPay m g.1.1 else iprop(emp))
  unfold barPay recvPay sendPay
  (repeat' split) <;> infer_instance

/-- A cell of the exchange has the one duty at round 0, -/
theorem duties_cell {g : GSem nD τ sig} (h : IsCell g) : (sched (F := F) m).duties g 0 = {()} := if_pos ⟨rfl, h⟩
/-- none later. -/
theorem duties_later (g : GSem nD τ sig) : ∀ r, 1 ≤ r → (sched (F := F) m).duties g r = ∅ :=
  fun r hr => by dsimp only [sched]; rw [if_neg fun h => by omega]

section Sched
variable (c : Dev nD)

/-- The barrier cell is one of the exchange, -/
theorem isCell_bar : IsCell (barCell c) := ⟨rfl, .inl rfl⟩
/-- the send cell too, -/
theorem isCell_send : IsCell (sendCell c) := ⟨rfl, .inr (.inl rfl)⟩
/-- and the receive cell. -/
theorem isCell_recv : IsCell (recvCell c) := ⟨rfl, .inr (.inr rfl)⟩

/-- A barrier cell gets one unit, -/
theorem amount_bar : (sched (F := F) m).amount (barCell c) 0 () = 1 := by dsimp only [sched]; exact if_pos rfl
/-- a send cell the row's credit, -/
theorem amount_send : (sched (F := F) m).amount (sendCell c) 0 () = N := by dsimp only [sched]; exact if_neg send_ne_bar
/-- and a receive cell as much. -/
theorem amount_recv : (sched (F := F) m).amount (recvCell c) 0 () = N := by dsimp only [sched]; exact if_neg recv_ne_bar

/-- A cell expects the amount of its one duty. -/
theorem expect_cell {g : GSem nD τ sig} (h : IsCell g) : (sched (F := F) m).expect g 0 = (sched (F := F) m).amount g 0 () := by
  unfold Schedule.expect Schedule.amountOf; rw [duties_cell m h, Finset.sum_singleton]

/-- A barrier cell's payload, -/
theorem payload_bar : (sched (F := F) m).payload (barCell c) 0 () = barPay c := by dsimp only [sched]; exact if_pos rfl
/-- a receive cell's, -/
theorem payload_recv : (sched (F := F) m).payload (recvCell c) 0 () = recvPay m c := by dsimp only [sched]; rw [if_neg recv_ne_bar, if_pos rfl]
/-- and a send cell's. -/
theorem payload_send : (sched (F := F) m).payload (sendCell c) 0 () = sendPay m c := by
  dsimp only [sched]; rw [if_neg send_ne_bar, if_neg send_ne_recv, if_pos rfl]

/-- All of a round's payloads at once: the one duty's. -/
theorem rest_cell {g : GSem nD τ sig} (h : IsCell g) :
    bigSep ((sched (F := F) m).duties g 0 \ ∅) (fun d => (sched (F := F) m).payload g 0 d) = (sched (F := F) m).payload g 0 () := by
  rw [Finset.sdiff_empty, duties_cell m h, bigSep_singleton]

end Sched

/-! ## What a core owes at launch, and the levels -/

/-- After its signal a device owes the peer's receive cell the row's credit, -/
def O₁ (c : Dev nD) : CellTallies nD τ sig Unit := tallyAt (recvCell (peer c)) () N
/-- and before it also the peer's barrier cell a unit. -/
def O₀ (c : Dev nD) : CellTallies nD τ sig Unit := O₁ c + tallyAt (barCell (peer c)) () 1

/-- Every semaphore of a TensorCore has a level. -/
def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = .dma recvS then 2 else 0

/-- No other core's has, -/
theorem L_of_ne (g : GSem nD τ sig) (h : g.1.2 ≠ .tc) : L g = ∅ := if_neg h
/-- a TensorCore's has one. -/
theorem L_tc (c : Dev nD) (sm : SemLoc sig) : L ((c : Thread nD τ), sm) = {()} := if_pos rfl
/-- A barrier cell is at level 1, -/
theorem lv_bar (c : Dev nD) (u : Unit) : lv (barCell c) u = 1 := if_pos rfl
/-- a receive cell at level 2. -/
theorem lv_recv (c : Dev nD) (u : Unit) : lv (recvCell c) u = 2 := by unfold lv; rw [if_neg recv_ne_bar, if_pos rfl]

/-- After its signal a device owes no cell but its peer's receive cell; -/
theorem O₁_pos {c : Dev nD} {g : GSem nD τ sig} {u : Unit} (h : 0 < O₁ c g u) : g = recvCell (peer c) := by
  unfold O₁ at h; rw [tallyAt_apply] at h
  by_contra hn; rw [if_neg fun h' => hn h'.1] at h; exact Nat.lt_irrefl 0 h
/-- before it, none but that and the peer's barrier cell. -/
theorem O₀_pos {c : Dev nD} {g : GSem nD τ sig} {u : Unit} (h : 0 < O₀ c g u) : g = recvCell (peer c) ∨ g = barCell (peer c) := by
  unfold O₀ at h; rw [Pi.add_apply, Finsupp.add_apply, tallyAt_apply] at h
  by_contra hn; rw [not_or] at hn
  rw [if_neg fun h' => hn.2 h'.1, Nat.add_zero] at h
  exact hn.1 (O₁_pos h)

omit [FloatOps F] in
/-- A core may wait on a transfer other than the peer's while it owes what it owes at launch, -/
theorem mayWait₀ (c : Dev nD) (q : DmaSem sig) (hq : SemLoc.dma q ≠ .dma recvS) :
    (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by rcases O₀_pos hg with rfl | rfl <;> exact Finset.mem_singleton_self _)
    (fun p hp => by rw [Finset.mem_singleton.mp hp]; dsimp only [lv]; rw [if_neg (fun h => by cases h), if_neg hq])
    (fun g u hg => by
      rcases O₀_pos hg with rfl | rfl
      · rw [lv_recv]; decide
      · rw [lv_bar]; decide)
omit [FloatOps F] in
/-- and while it owes the peer's row only, -/
theorem mayWait₁ (c : Dev nD) (q : DmaSem sig) (hq : SemLoc.dma q ≠ .dma recvS) :
    (levAts L lv : sProp 𝕄) ⊢ MayWait (c : Thread nD τ) (.dma q) () (O₁ c) :=
  MayOwe.of_cut (L := L) (lev := lv) 0 (fun p hp => by rw [Finset.mem_singleton.mp hp, L_tc]; exact Finset.mem_singleton_self _)
    (fun g u hg => by rw [O₁_pos hg]; exact Finset.mem_singleton_self _)
    (fun p hp => by rw [Finset.mem_singleton.mp hp]; dsimp only [lv]; rw [if_neg (fun h => by cases h), if_neg hq])
    (fun g u hg => by rw [O₁_pos hg, lv_recv]; decide)
omit [FloatOps F] in
/-- and then on its barrier too. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rw [O₁_pos hg]; exact Finset.mem_singleton_self _)
    (fun p hp => by rw [Finset.mem_singleton.mp hp, lv_bar])
    (fun g u hg => by rw [O₁_pos hg, lv_recv]; decide)

/-! ## Conjunctions along a list -/

/-- The conjunction of `Φ` over a list of chunks. -/
def along (l : List (Fin 16)) (Φ : Fin 16 → sProp 𝕄) : sProp 𝕄 := l.foldr (fun k P => iprop(Φ k ∗ P)) iprop(emp)

omit [FloatOps F] in
/-- A list that begins with `k`: the conjunct of `k`, then the rest. -/
theorem along_cons (k : Fin 16) (l : List (Fin 16)) (Φ : Fin 16 → sProp 𝕄) : along (k :: l) Φ = iprop(Φ k ∗ along l Φ) := rfl
omit [FloatOps F] in
/-- Over a list without repetition it is the conjunction over its set. -/
theorem along_eq (l : List (Fin 16)) (hl : l.Nodup) (Φ : Fin 16 → sProp 𝕄) : along l Φ = bigSep l.toFinset Φ := by
  induction l with
  | nil => rw [List.toFinset_nil, bigSep_empty]; rfl
  | cons k l ih =>
    obtain ⟨h1, h2⟩ := List.nodup_cons.mp hl
    rw [along_cons, ih h2, List.toFinset_cons, bigSep_insert (fun h => h1 (List.mem_toFinset.mp h))]; rfl
omit [FloatOps F] in
/-- Over all sixteen chunks. -/
theorem along_all (Φ : Fin 16 → sProp 𝕄) : along (List.finRange 16) Φ = bigSep Finset.univ Φ := by
  rw [along_eq _ (List.nodup_finRange 16), List.toFinset_finRange]
omit [FloatOps F] in
/-- A conjunction of pairs is a pair of conjunctions. -/
theorem along_sep (l : List (Fin 16)) (Φ Ψ : Fin 16 → sProp 𝕄) (hl : l.Nodup) : along l (fun k => iprop(Φ k ∗ Ψ k)) = iprop(along l Φ ∗ along l Ψ) := by
  rw [along_eq l hl, along_eq l hl, along_eq l hl, bigSep_sep']

end Cert.ColMax

end
-- ==== Proof.Body.lean ====
/-
The kernel's body under the protocol: the copies started, the fold chunk by chunk, the exchange.
-/
module

public import proofs.«01_k».proof.Proof.Proto

@[expose] public section

noncomputable section

namespace Cert.ColMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ
local notation "PR" => Prog (TpuEff nD τ sig (Elt F) Λ₀ Proc.tc)

variable (m : (ℓ : Loc nD τ sig) → Buf (Elt F) ℓ) (ρ : Dev nD → PrngReg)

/-- The program has no loop that needs a variant. -/
abbrev 𝒱₀ : Variants := Variants.none

/-- The weakest precondition of a program on device `c`. -/
abbrev wpc (c : Dev nD) (p : PR PUnit) (Q : PUnit → sProp 𝕄) : sProp 𝕄 :=
  wp frame (wpE (defs₀ (F := F)) 𝒱₀ (c : Thread nD τ) none) Set.univ p Q

/-! ## The chunks of a block -/

omit [FloatOps F] in
/-- The offsets of a whole load are zero. -/
theorem hz : (![0, 0] : Fin 2 → Nat) = fun _ => 0 := funext fun a => by fin_cases a <;> rfl

/-- The elements of chunk `k`. -/
abbrev chSet (k : Fin 16) : Finset S4096x1024.Idx := (chunk k).set

/-- Chunk `k` of the block covers exactly the elements of chunk `k`, -/
theorem xCh_set (k : Fin 16) : (xCh k).view.set = chSet k := View.set_slice_whole main_arg0 (chunk k)
/-- and so does chunk `k` of the copy. -/
theorem bCh_set (k : Fin 16) : (bCh k).view.set = chSet k := View.set_slice_whole cc0_scratch0 (chunk k)

/-- An element lies in chunk `k` iff its row does. -/
theorem mem_chSet (k : Fin 16) (i : S4096x1024.Idx) : i ∈ chSet k ↔ 256 * k.val ≤ (i 0).val ∧ (i 0).val < 256 * k.val + 256 := by
  rw [Rect.mem_set_unit]
  constructor
  · intro h; exact h 0
  · intro h a
    fin_cases a
    · exact h
    · exact ⟨Nat.zero_le _, by have := (i 1).isLt; exact this⟩

/-- Two chunks share no element, -/
theorem chSet_disjoint (k k' : Fin 16) (h : k ≠ k') : Disjoint (chSet k) (chSet k') :=
  Finset.disjoint_left.mpr fun i hi hi' => by
    rw [mem_chSet] at hi hi'
    exact h (Fin.ext (by omega))

/-- and together the chunks are the whole block. -/
theorem chSet_cover : (Finset.univ : Finset (Fin 16)).biUnion chSet = Finset.univ := by
  ext i
  simp only [Finset.mem_biUnion, Finset.mem_univ, true_and, iff_true]
  have hi : (i 0).val < 4096 := (i 0).isLt
  exact ⟨⟨(i 0).val / 256, by omega⟩, (mem_chSet _ i).mpr ⟨by dsimp only; omega, by dsimp only; omega⟩⟩

/-- Chunk `k` of the block, -/
def xPts (c : Dev nD) (k : Fin 16) : sProp 𝕄 := (xCh k).view.loc (c : Thread nD τ) ↦[(xCh k).view.set]{fullShare} X m c
/-- and of its copy, at contents `f`. -/
def bPts (c : Dev nD) (f : cc0_scratch0.ty.Contents (Elt F)) (k : Fin 16) : sProp 𝕄 := (bCh k).view.loc (c : Thread nD τ) ↦[(bCh k).view.set]{fullShare} f

omit [FloatOps F] in
/-- Holding every chunk of the block is holding the block, -/
theorem xPts_all (c : Dev nD) : along (List.finRange 16) (xPts m c) = (((c : Thread nD τ).loc main_arg0) ↦{fullShare} X m c : sProp 𝕄) := by
  rw [along_all, show (Finset.univ : Finset (Idx ((c : Thread nD τ).loc main_arg0))) = Finset.univ.biUnion chSet from chSet_cover.symm]
  refine Eq.trans ?_ (pointsTo_biUnion (ℓ := (c : Thread nD τ).loc main_arg0) (f := X m c) Finset.univ chSet fun k _ k' _ h => chSet_disjoint k k' h).symm
  exact bigSep_congr fun k _ => by unfold xPts; rw [xCh_set]
omit [FloatOps F] in
/-- and holding every chunk of its copy is holding the copy. -/
theorem bPts_all (c : Dev nD) (f : cc0_scratch0.ty.Contents (Elt F)) :
    along (List.finRange 16) (bPts c f) = (((c : Thread nD τ).loc cc0_scratch0) ↦{fullShare} f : sProp 𝕄) := by
  rw [along_all, show (Finset.univ : Finset (Idx ((c : Thread nD τ).loc cc0_scratch0))) = Finset.univ.biUnion chSet from chSet_cover.symm]
  refine Eq.trans ?_ (pointsTo_biUnion (ℓ := (c : Thread nD τ).loc cc0_scratch0) (f := f) Finset.univ chSet fun k _ k' _ h => chSet_disjoint k k' h).symm
  exact bigSep_congr fun k _ => by unfold bPts; rw [bCh_set]

omit [FloatOps F] in
/-- What a chunk's copy leaves in VMEM: the block's own elements. -/
theorem copied (c : Dev nD) (f : cc0_scratch0.ty.Contents (Elt F)) (k : Fin 16) :
    bPts c ((bCh k).view.write (Elt F) f ((xCh k).view.read (Elt F) (X m c)) Finset.univ) k = bPts (F := F) c (X m c) k := by
  unfold bPts
  refine pointsTo_congr fun i hi => ?_
  obtain ⟨x, -, rfl⟩ := Finset.mem_map.mp hi
  rw [View.write_emb_of_mem _ _ (Finset.mem_univ _)]
  rfl

/-! ## The copies started -/

/-- A chunk before its copy: its semaphore at zero, its source and its destination. -/
def idle (c : Dev nD) (f : cc0_scratch0.ty.Contents (Elt F)) (k : Fin 16) : sProp 𝕄 := iprop(semVal (copyCell c k) 0 ∗ xPts m c k ∗ bPts c f k)
/-- Its copy in flight, -/
def flight (c : Dev nD) (f : cc0_scratch0.ty.Contents (Elt F)) (k : Fin 16) : sProp 𝕄 :=
  Transfers.Flight EC (c : Thread nD τ) (.dma (copySem k)) () (NC k)
    iprop(bPts c ((bCh k).view.write (Elt F) f ((xCh k).view.read (Elt F) (X m c)) Finset.univ) k ∗ xPts m c k)

/-- One chunk's copy started: the chunk goes from idle to in flight. -/
theorem wp_issue (c : Dev nD) (f : cc0_scratch0.ty.Contents (Elt F)) (k : Fin 16) (p : PR PUnit) (Q : PUnit → sProp 𝕄) :
    idle m c f k ⊢ iprop((flight m c f k -∗ wpc c p Q) -∗ wpc c (issue k p) Q) := by
  unfold idle flight issue xPts bPts
  iintro ⟨Hv, Hx, Hb⟩ Hk
  iapply (Transfers.wp_dmaLocal EC 𝒱₀ (c : Thread nD τ) none () (NC k) rfl (NC_pos k) (subset_refl _)) $$ [Hv Hx Hb]
  · isplitl [Hx]; · iexact Hx
    isplitl [Hb] <;> iassumption
  iexact Hk

/-- Every chunk's copy started. -/
theorem wp_issues (c : Dev nD) (f : cc0_scratch0.ty.Contents (Elt F)) (p : PR PUnit) (Q : PUnit → sProp 𝕄) (l : List (Fin 16)) :
    along l (idle m c f) ⊢ iprop((along l (flight m c f) -∗ wpc c p Q) -∗ wpc c (l.foldr issue p) Q) := by
  induction l with
  | nil =>
    iintro H Hk; iapply Hk; iexact H
  | cons k l ih =>
    rw [along_cons, along_cons, List.foldr_cons]
    iintro ⟨H, Hl⟩ Hk
    iapply (wp_issue m c f k _ Q) $$ H
    iintro Hf
    iapply ih $$ Hl
    iintro Hl
    iapply Hk
    isplitl [Hf] <;> iassumption

/-! ## The fold -/

/-- The accumulator at contents `a`. -/
def aPts (c : Dev nD) (a : Vec F S8x1024 .bf16) : sProp 𝕄 := ((c : Thread nD τ).loc cc0_scratch1) ↦{fullShare} (a : cc0_scratch1.ty.Contents (Elt F))
/-- What the core owes before the exchange, having waited on some semaphores. -/
def owing (c : Dev nD) : sProp 𝕄 := iprop(∃ W, owes (c : Thread nD τ) (O₁ c) W)
/-- A chunk after its step: its semaphore at zero, its source and its copy. -/
def done (c : Dev nD) (k : Fin 16) : sProp 𝕄 := iprop(semVal (copyCell c k) 0 ∗ xPts m c k ∗ bPts c (X m c) k)

/-- Loading the accumulator gives its contents. -/
theorem wp_loadAcc (c : Dev nD) (a : Vec F S8x1024 .bf16) (p : Vec F S8x1024 .bf16 → PR PUnit) (Q : PUnit → sProp 𝕄) :
    aPts c a ⊢ iprop((aPts c a -∗ wpc c (p a) Q) -∗ wpc c (loadAcc p) Q) := by
  unfold aPts loadAcc
  have h := wp_load (defs := defs₀ (F := F)) (Γ := []) 𝒱₀ (c : Thread nD τ) none Set.univ (m := aM) (r := rAcc.toLoadRect) (hl := View.loadsAt_vmem h_S8x1024) (k := p) (Q := Q)
    (S := Finset.univ) (q := fullShare) (f := a) (Finset.subset_univ _)
  rw [show aM.view.readAt (Elt F) rAcc.toLoadRect a = a from Memref.readAt_unit_zero (Elt F) cc0_scratch1 hz _ a] at h
  exact h

/-- Storing into the accumulator replaces its contents. -/
theorem wp_storeAcc (c : Dev nD) (a v : Vec F S8x1024 .bf16) (p : PR PUnit) (Q : PUnit → sProp 𝕄) :
    aPts c a ⊢ iprop((aPts c v -∗ wpc c p Q) -∗ wpc c (storeAcc v p) Q) := by
  unfold aPts storeAcc
  iintro H Hk
  iapply (wp_store 𝒱₀ (c : Thread nD τ) none Set.univ (m := aM) (r := rAcc) (Mk := Finset.univ) (Finset.subset_univ _)) $$ H
  iintro H
  rw [show ((aM.access rAcc : View sig .tc _ _ _).write (Elt F) a v Finset.univ) = v from Memref.write_access_unit_zero_univ (Elt F) cc0_scratch1 hz _ a v]
  iapply Hk; iexact H

/-- Awaiting a chunk's copy and loading it gives the block's own elements of that chunk. -/
theorem wp_fetch (c : Dev nD) (f : cc0_scratch0.ty.Contents (Elt F)) (k : Fin 16) (p : Vec F S256x1024 .bf16 → PR PUnit) (Q : PUnit → sProp 𝕄) :
    iprop(flight m c f k ∗ owing c ∗ levAts L lv) ⊢ iprop(((done m c k ∗ owing c) -∗ wpc c (p (blk m c k)) Q) -∗ wpc c (fetch k p) Q) := by
  unfold flight owing fetch done
  iintro ⟨Hf, ⟨%W, HO⟩, #Hlev⟩ Hk
  iapply (Transfers.wp_waitLocalO EC 𝒱₀ (c : Thread nD τ) none () (N := NC k) rfl) $$ [Hf HO]
  · isplitl [Hf]; · iexact Hf
    isplitl [HO]; · iexact HO
    iapply (mayWait₁ c (copySem k) (copy_ne_recv k)); iexact Hlev
  iintro ⟨⟨Hb, Hx⟩, Hv, HO⟩
  ihave Hb := (Entails.of_eq (copied m c f k)) $$ Hb
  unfold bPts
  iapply (wp_load 𝒱₀ (c : Thread nD τ) none Set.univ (m := bM) (S := (bCh k).view.set) (f := X m c) (subset_of_eq (by
    rw [bCh_set]; exact Finset.map_refl))) $$ Hb
  iintro Hb
  iapply Hk
  isplitl [Hv Hx Hb]
  · isplitl [Hv]; · iexact Hv
    isplitl [Hx] <;> iassumption
  iexists _; iexact HO

/-- The first chunk's step leaves that chunk's contribution in the accumulator. -/
theorem wp_stepFirst (c : Dev nD) (f : cc0_scratch0.ty.Contents (Elt F)) (a : Vec F S8x1024 .bf16) (p : PR PUnit) (Q : PUnit → sProp 𝕄) :
    iprop(flight m c f 0 ∗ aPts c a ∗ owing c ∗ levAts L lv)
      ⊢ iprop(((done m c 0 ∗ aPts c (accFirst (blk m c 0)) ∗ owing c) -∗ wpc c p Q) -∗ wpc c (stepFirst p) Q) := by
  unfold stepFirst
  iintro ⟨Hf, Ha, HO, #Hlev⟩ Hk
  iapply (wp_fetch m c f 0 _ Q) $$ [Hf HO]
  · isplitl [Hf]; · iexact Hf
    isplitl [HO]; · iexact HO
    iexact Hlev
  iintro ⟨Hd, HO⟩
  iapply (wp_loadAcc c a _ Q) $$ Ha; iintro Ha
  iapply (wp_storeAcc c a _ _ Q) $$ Ha; iintro Ha
  iapply Hk
  isplitl [Hd]; · iexact Hd
  isplitl [Ha] <;> iassumption

/-- Every later chunk folded into the accumulator. -/
theorem wp_steps (c : Dev nD) (f : cc0_scratch0.ty.Contents (Elt F)) (p : PR PUnit) (Q : PUnit → sProp 𝕄) (l : List (Fin 16)) : ∀ a : Vec F S8x1024 .bf16,
    iprop(along l (flight m c f) ∗ aPts c a ∗ owing c ∗ levAts L lv)
      ⊢ iprop(((along l (done m c) ∗ aPts c (l.foldl (fun a k => accNext (blk m c k) a) a) ∗ owing c) -∗ wpc c p Q) -∗ wpc c (l.foldr stepNext p) Q) := by
  induction l with
  | nil =>
    intro a
    rw [List.foldl_nil, List.foldr_nil]
    iintro ⟨H, Ha, HO, -⟩ Hk; iapply Hk
    isplitl [H]; · iexact H
    isplitl [Ha] <;> iassumption
  | cons k l ih =>
    intro a
    rw [along_cons, along_cons, List.foldr_cons, List.foldl_cons]
    unfold stepNext
    iintro ⟨⟨Hf, Hl⟩, Ha, HO, #Hlev⟩ Hk
    iapply (wp_fetch m c f k _ Q) $$ [Hf HO]
    · isplitl [Hf]; · iexact Hf
      isplitl [HO]; · iexact HO
      iexact Hlev
    iintro ⟨Hd, HO⟩
    iapply (wp_loadAcc c a _ Q) $$ Ha; iintro Ha
    iapply (wp_loadAcc c a _ Q) $$ Ha; iintro Ha
    iapply (wp_storeAcc c a _ _ Q) $$ Ha; iintro Ha
    iapply (ih _) $$ [Hl Ha HO]
    · isplitl [Hl]; · iexact Hl
      isplitl [Ha]; · iexact Ha
      isplitl [HO]; · iexact HO
      iexact Hlev
    iintro ⟨Hl, Ha, HO⟩
    iapply Hk
    isplitl [Hd Hl]
    · isplitl [Hd] <;> iassumption
    isplitl [Ha] <;> iassumption

/-! ## The exchange -/

section Exchange

variable (K : Dev nD × Fin 3 → ℕ)

/-- The invariants device `c` opens, under the names the launch gave them: its own three cells', its peer's barrier
    cell's (its signal) and its peer's receive cell's (its transfer). -/
def invs (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

/-- The invariants may be copied, -/
instance invs_persistent (c : Dev nD) : BI.Persistent (invs m K c) := by unfold invs; infer_instance

/-- The rounds reached: by the cells it pays, and by its own receive cell (which it tells its peer). -/
def marks (c : Dev nD) : sProp 𝕄 :=
  iprop(reached ER (barCell (peer c)) 0 ∗ reached ER (recvCell (peer c)) 0 ∗ reached ER (sendCell c) 0 ∗ reached ER (recvCell c) 0)

/-- and so may the rounds reached. -/
instance marks_persistent (c : Dev nD) : BI.Persistent (marks (F := F) c) := by unfold marks; infer_instance

/-- A device's place at the start of its three cells. -/
def places (c : Dev nD) : sProp 𝕄 := iprop(atPos ER (barCell c) 0 ∅ 0 ∗ atPos ER (sendCell c) 0 ∅ 0 ∗ atPos ER (recvCell c) 0 ∅ 0)
/-- The tokens of the duties it pays. -/
def payToks (c : Dev nD) : sProp 𝕄 :=
  iprop(dutyTok ER (barCell (peer c)) 0 () ∗ dutyTok ER (recvCell (peer c)) 0 () ∗ dutyTok ER (sendCell c) 0 ())

/-- Device `c`'s side of the exchange. -/
def ghost (c : Dev nD) : sProp 𝕄 := iprop(invs m K c ∗ marks c ∗ places c ∗ payToks c)

/-- The transfer of the row to the peer. -/
theorem wp_sendRow (c n : Dev nD) (hn : n = peer c) {hsc : (rM : Memref sig (Dev.tc n : Thread nD τ).2.kind .vmem S1x1024 .bf16).view.ref.isScScratch = false}
    {hsrc : sM.view.WordExact} {hdst : rM.view.WordExact}
    {hsem : DmaTarget.Typed .vmem (.dma recvS) (.remote (Dev.tc n : Thread nD τ) (rM : Memref sig .tc .vmem S1x1024 .bf16) (.dma sendS) hsc)}
    {Q : PUnit → sProp 𝕄} {k : PUnit → PR PUnit} (fn : Buf (Elt F) (rM.view.loc (peer c : Thread nD τ))) (W : Waits sig Unit) :
    iprop(cellInv ER (sched m) (K (c, 1)) (sendCell c) ∗ cellInv ER (sched m) (K (peer c, 2)) (recvCell (peer c))
        ∗ sPts c (row m c) ∗ rPts (peer c) fn ∗ owes (c : Thread nD τ) (O₁ c) W
        ∗ dutyTok ER (sendCell c) 0 () ∗ reached ER (sendCell c) 0 ∗ dutyTok ER (recvCell (peer c)) 0 () ∗ reached ER (recvCell (peer c)) 0)
      ⊢ iprop(((cred (tallyAt (sendCell c) () N) ∗ owes (c : Thread nD τ) 0 W) -∗ wpc c (k ⟨⟩) Q)
          -∗ wpc c (.op (.enqueueDma sM (.remote (Dev.tc n : Thread nD τ) rM (.dma sendS) hsc) (.dma recvS) hsrc hdst hsem) k) Q) := by
  subst hn
  unfold sPts rPts
  exact Rounds.wp_send_pointsTo 𝒱₀ ER (sched m) (c : Thread nD τ) none (κ₁ := K (c, 1)) (κ₂ := K (peer c, 2))
    (r₁ := 0) (r₂ := 0) (d₁ := ()) (d₂ := ()) (fd := fn)
    (by rw [duties_cell m (isCell_send c)]; exact Finset.mem_singleton_self _) (by rw [duties_cell m (isCell_recv (peer c))]; exact Finset.mem_singleton_self _)
    () () N rfl (amount_send m c) (amount_recv m (peer c)) 0 (by unfold O₁; rw [zero_add]) (W := W)
    (by rw [payload_send]; exact BI.Entails.refl _)
    (by rw [payload_recv]; unfold recvPay rPts; rw [landed_eq c, peer_peer])

/-- The result's staging buffer at contents `o`. -/
def oPts (c : Dev nD) (o : Vec F S1x1024 .bf16) : sProp 𝕄 := ((c : Thread nD τ).loc cc0_stg0_0) ↦{fullShare} (o : cc0_stg0_0.ty.Contents (Elt F))

/-- What the exchange starts from, -/
def exPre (c : Dev nD) : sProp 𝕄 :=
  iprop(aPts c (acc m c) ∗ (∃ f, sPts c f) ∗ (∃ o, oPts c o) ∗ owing c
    ∗ (cellInv ER (sched m) (K (c, 0)) (barCell c) ∗ cellInv ER (sched m) (K (c, 1)) (sendCell c) ∗ cellInv ER (sched m) (K (c, 2)) (recvCell c)
      ∗ cellInv ER (sched m) (K (peer c, 2)) (recvCell (peer c)) ∗ reached ER (sendCell c) 0)
    ∗ places c ∗ dutyTok ER (recvCell (peer c)) 0 () ∗ dutyTok ER (sendCell c) 0 ()
    ∗ cred (tallyAt (barCell c) () 1) ∗ cred (tallyAt (recvCell c) () N) ∗ levAts L lv)
/-- and what it leaves: the buffers, the result stored, nothing owed, the three cells closed. -/
def exPost (c : Dev nD) : sProp 𝕄 :=
  iprop(aPts c (acc m c) ∗ sPts c (row m c) ∗ rPts c (row m (peer c)) ∗ oPts c (out m c) ∗ (∃ W, owes (c : Thread nD τ) 0 W)
    ∗ semVal (barCell c) 0 ∗ semVal (sendCell c) 0 ∗ semVal (recvCell c) 0)

set_option maxHeartbeats 800000 in
/-- The exchange, from its start to the result stored. -/
theorem wp_exchange (c : Dev nD) (Q : PUnit → sProp 𝕄) : iprop(exPre m K c ∗ (exPost m c -∗ Q ⟨⟩)) ⊢ wpc c (exchange c) Q := by
  unfold exchange exPre places owing
  simp only [semWaitWord, Prog.lift, Prog.bind_op, Prog.bind_ret, Prog.pure_eq_ret]
  iintro ⟨⟨Ha, ⟨%f, Hs⟩, ⟨%o, Ho⟩, ⟨%W, HO⟩, ⟨#HIb, #HIs, #HIr, #HIrP, #HmS⟩, ⟨HpB, HpS, HpR⟩, HtR, HtS, HcB, HcR, #Hlev⟩, Hk⟩
  iapply (wp_loadAcc c (acc m c) _ Q) $$ Ha; iintro Ha
  -- the row stored into the send buffer
  unfold sPts
  iapply (wp_load 𝒱₀ (c : Thread nD τ) none Set.univ (m := sM) (View.setOn_subset_set _ _)) $$ Hs; iintro Hs
  iapply (wp_store 𝒱₀ (c : Thread nD τ) none Set.univ (m := sM) (r := rRow) (Mk := Finset.univ) (Memref.setOn_access_subset _ _ _)) $$ Hs; iintro Hs
  rw [show ((sM.access rRow : View sig .tc _ _ _).write (Elt F) f (toRow (acc m c)) Finset.univ) = row m c from
    Memref.write_access_unit_zero_univ (Elt F) cc0_scratch2 hz _ f (toRow (acc m c))]
  -- the barrier: the peer's landing buffer
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_cell m (isCell_bar c), amount_bar]; decide)) $$ [HcB HO HpB]
  · isplitr; · iexact HIb
    isplitl [HcB]; · iexact HcB
    isplitl [HO]; · iexact HO
    isplitr; · iapply (mayWait_bar c); iexact Hlev
    iexact HpB
  iintro ⟨HO, HpB, -, Hpay⟩
  ihave Hp := (Entails.of_eq ((rest_cell m (isCell_bar c)).trans (payload_bar m c))) $$ Hpay
  unfold barPay
  icases Hp with ⟨⟨%fn, HrP⟩, #HmR⟩
  -- the transfer
  iapply (wp_sendRow m K c _ (dev2_eq c) fn _) $$ [Hs HrP HO HtS HtR]
  · isplitr; · iexact HIs
    isplitr; · iexact HIrP
    isplitl [Hs]; · unfold sPts; iexact Hs
    isplitl [HrP]; · iexact HrP
    isplitl [HO]; · iexact HO
    isplitl [HtS]; · iexact HtS
    isplitr; · iexact HmS
    isplitl [HtR]; · iexact HtR
    iexact HmR
  iintro ⟨HcS, HO⟩
  -- the own row back
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (by rw [Nat.zero_add, expect_cell m (isCell_send c), amount_send])) $$ [HcS HO HpS]
  · isplitr; · iexact HIs
    isplitl [HcS]; · iexact HcS
    isplitl [HO]; · iexact HO
    isplitr; · rw [MayWait_zero]; iempintro
    iexact HpS
  iintro ⟨HO, HpS, -, Hpay⟩
  ihave Hs := (Entails.of_eq ((rest_cell m (isCell_send c)).trans (payload_send m c))) $$ Hpay
  -- the peer's row
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (by rw [Nat.zero_add, expect_cell m (isCell_recv c), amount_recv])) $$ [HcR HO HpR]
  · isplitr; · iexact HIr
    isplitl [HcR]; · iexact HcR
    isplitl [HO]; · iexact HO
    isplitr; · rw [MayWait_zero]; iempintro
    iexact HpR
  iintro ⟨HO, HpR, -, Hpay⟩
  ihave Hr := (Entails.of_eq ((rest_cell m (isCell_recv c)).trans (payload_recv m c))) $$ Hpay
  -- the three cells closed
  imod (Rounds.cell_close ER (sched m) (Set.mem_univ (K (c, 0))) (fun h => h) (R := 0 + 1) (duties_later m (barCell c))) $$ [HpB] with HzB
  · isplitr; · iexact HIb
    iexact HpB
  imod (Rounds.cell_close ER (sched m) (Set.mem_univ (K (c, 1))) (fun h => h) (R := 0 + 1) (duties_later m (sendCell c))) $$ [HpS] with HzS
  · isplitr; · iexact HIs
    iexact HpS
  imod (Rounds.cell_close ER (sched m) (Set.mem_univ (K (c, 2))) (fun h => h) (R := 0 + 1) (duties_later m (recvCell c))) $$ [HpR] with HzR
  · isplitr; · iexact HIr
    iexact HpR
  -- the larger of the two rows stored
  unfold sendPay recvPay sPts rPts oPts
  iapply (wp_load 𝒱₀ (c : Thread nD τ) none Set.univ (m := sM) (View.setOn_subset_set _ _)) $$ Hs; iintro Hs
  rw [show sM.view.readAt (Elt F) rRow.toLoadRect (row m c) = row m c from Memref.readAt_unit_zero (Elt F) cc0_scratch2 hz _ _]
  iapply (wp_load 𝒱₀ (c : Thread nD τ) none Set.univ (m := rM) (View.setOn_subset_set _ _)) $$ Hr; iintro Hr
  rw [show rM.view.readAt (Elt F) rRow.toLoadRect (row m (peer c)) = row m (peer c) from Memref.readAt_unit_zero (Elt F) cc0_scratch3 hz _ _]
  iapply (wp_load 𝒱₀ (c : Thread nD τ) none Set.univ (m := oM) (Finset.subset_univ _)) $$ Ho; iintro Ho
  iapply (wp_store 𝒱₀ (c : Thread nD τ) none Set.univ (m := oM) (r := rRow) (Mk := Finset.univ) (Finset.subset_univ _)) $$ Ho; iintro Ho
  rw [show ((oM.access rRow : View sig .tc _ _ _).write (Elt F) o (k0_pay2 (row m c) (row m (peer c))) Finset.univ) = out m c from
    Memref.write_access_unit_zero_univ (Elt F) cc0_stg0_0 hz _ o _]
  rw [wp_ret]; imodintro
  iapply Hk
  unfold exPost sPts rPts oPts
  isplitl [Ha]; · iexact Ha
  isplitl [Hs]; · iexact Hs
  isplitl [Hr]; · iexact Hr
  isplitl [Ho]; · iexact Ho
  isplitl [HO]; · iexists _; iexact HO
  isplitl [HzB]; · iexact HzB
  isplitl [HzS] <;> iassumption

end Exchange

end Cert.ColMax

end
-- ==== Proof.Obligation.lean ====
/-
The whole body under the protocol, and the launch's obligation that it is correct at the one grid point.
-/
module

public import proofs.«01_k».proof.Proof.Body
public import proofs.«01_k».proof.Proof.Gen.KernelIdeal.Launch
public import proofs.«01_k».proof.Proof.Gen.KernelIdeal.Points

@[expose] public section

noncomputable section

namespace Cert.ColMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "PR" => Prog (TpuEff nD τ sig (Elt F) Λ₀ Proc.tc)

variable (m : (ℓ : Loc nD τ sig) → Buf (Elt F) ℓ) (ρ : Dev nD → PrngReg)

/-! ## The signal -/

section Whole

variable (K : Dev nD × Fin 3 → ℕ)

/-- The signal to the peer: it hands over the own landing buffer and that the own receive cell is at round 0. -/
theorem wp_signalPeer (c n : Dev nD) (hn : n = peer c) (f : Buf (Elt F) (rM.view.loc (c : Thread nD τ))) (W : Waits sig Unit) (p : PUnit → PR PUnit) (Q : PUnit → sProp 𝕄) :
    iprop(cellInv ER (sched m) (K (peer c, 0)) (barCell (peer c)) ∗ owes (c : Thread nD τ) (O₀ c) W ∗ dutyTok ER (barCell (peer c)) 0 ()
        ∗ rPts c f ∗ reached ER (recvCell c) 0 ∗ reached ER (barCell (peer c)) 0)
      ⊢ iprop((owes (c : Thread nD τ) (O₁ c) W -∗ wpc c (p ⟨⟩) Q) -∗ wpc c ((semSignalWord n barS 1#32).bind p) Q) := by
  subst hn
  simp only [semSignalWord, Prog.lift, Prog.bind_op, Prog.bind_ret, Prog.pure_eq_ret]
  iintro ⟨#HI, HO, Ht, Hr, #HmR, #HmB⟩ Hk
  iapply (Rounds.wp_signal 𝒱₀ ER (sched m) (c : Thread nD τ) none (dst := (peer c : Thread nD τ)) (κ := K (peer c, 0))
      (d := ()) (by rw [duties_cell m (isCell_bar (peer c))]; exact Finset.mem_singleton_self _) ((amount_bar m (peer c)).trans (by decide)) () (O₁ c) rfl)
    $$ [HO Ht Hr]
  · isplitr; · iexact HI
    isplitl [HO]; · iexact HO
    isplitl [Ht]; · iexact Ht
    isplitl [Hr]
    · rw [payload_bar]; unfold barPay; rw [peer_peer]
      isplitl [Hr]; · iexists f; iexact Hr
      iexact HmR
    · iexact HmB
  iexact Hk

/-! ## The body -/

/-- The copies' semaphores, all at zero. -/
def copies (c : Dev nD) : sProp 𝕄 := along (List.finRange 16) fun k => semVal (copyCell c k) 0
omit [FloatOps F] in
/-- The first chunk apart. -/
theorem along_first (Φ : Fin 16 → sProp 𝕄) :
    along (List.finRange 16) Φ = iprop(Φ 0 ∗ along [1, 2, 3, 4, 5, 6, 7, 8, 9, 10, 11, 12, 13, 14, 15] Φ) := by
  rw [show List.finRange 16 = 0 :: [1, 2, 3, 4, 5, 6, 7, 8, 9, 10, 11, 12, 13, 14, 15] from rfl, along_cons]
/-- The whole block of `x`. -/
def argPts (c : Dev nD) : sProp 𝕄 := ((c : Thread nD τ).loc main_arg0) ↦{fullShare} X m c
/-- The whole copy, at contents `f`. -/
def cpPts (c : Dev nD) (f : cc0_scratch0.ty.Contents (Elt F)) : sProp 𝕄 := ((c : Thread nD τ).loc cc0_scratch0) ↦{fullShare} f

omit [FloatOps F] in
/-- All chunks idle: the copies' semaphores at zero, the block, and its copy at contents `f`. -/
theorem along_idle (c : Dev nD) (f : cc0_scratch0.ty.Contents (Elt F)) : along (List.finRange 16) (idle m c f) = iprop(copies c ∗ argPts m c ∗ cpPts c f) := by
  unfold copies argPts cpPts
  rw [← xPts_all, ← bPts_all, ← along_sep _ _ _ (List.nodup_finRange 16), ← along_sep _ _ _ (List.nodup_finRange 16)]; rfl
omit [FloatOps F] in
/-- All chunks done: the same, with the copy holding the block's contents. -/
theorem along_done (c : Dev nD) : along (List.finRange 16) (done m c) = iprop(copies c ∗ argPts m c ∗ cpPts c (X m c)) := by
  unfold copies argPts cpPts
  rw [← xPts_all, ← bPts_all, ← along_sep _ _ _ (List.nodup_finRange 16), ← along_sep _ _ _ (List.nodup_finRange 16)]; rfl

/-- What the launch gives device `c` besides its buffers: its side of the exchange, the credit of its barrier and
    receive cells, the levels, the copies' semaphores and its block of `x`. -/
def start (c : Dev nD) : sProp 𝕄 :=
  iprop((∃ K, ghost m K c) ∗ cred (tallyAt (barCell c) () 1) ∗ cred (tallyAt (recvCell c) () N) ∗ levAts L lv ∗ copies c ∗ argPts m c)

/-- The four scratch buffers, at some contents. -/
def scratch (c : Dev nD) : sProp 𝕄 := iprop((∃ f, cpPts c f) ∗ (∃ a, aPts c a) ∗ (∃ f, sPts c f) ∗ (∃ f, rPts c f))

/-- Before the body: what the launch gives, and the scratch buffers. -/
def Φ₀ (c : Dev nD) : sProp 𝕄 := iprop(start m c ∗ scratch c)
/-- At the end: the block of `x` as it was, every semaphore at zero, the scratch buffers at some contents. -/
def Φ₁ (c : Dev nD) : sProp 𝕄 :=
  iprop(argPts m c ∗ semVal (barCell c) 0 ∗ (semVal (sendCell c) 0 ∗ semVal (recvCell c) 0 ∗ copies c) ∗ scratch c)

set_option maxHeartbeats 800000 in
/-- The body, from what the launch gives to the result stored. -/
theorem wp_body (c : Dev nD) (Q : PUnit → sProp 𝕄) :
    iprop((Φ₀ m c ∗ (∃ W, owes (c : Thread nD τ) (O₀ c) W) ∗ (∃ o, oPts c o))
        ∗ ((Φ₁ m c ∗ (∃ W, owes (c : Thread nD τ) 0 W) ∗ oPts c (out m c)) -∗ Q ⟨⟩)) ⊢ wpc c body Q := by
  unfold body
  simp only [wp_deviceId]
  unfold Φ₀ start scratch ghost invs marks payToks
  iintro ⟨⟨⟨⟨⟨%K, ⟨#HIb, #HIs, #HIr, #HIbP, #HIrP⟩, ⟨#HmBP, #HmRP, #HmS, #HmR⟩, Hpl, HtB, HtR, HtS⟩, HcB, HcR, #Hlev, Hcp, Hx⟩,
    ⟨%f, Hb⟩, ⟨%a, Ha⟩, Hs, ⟨%fr, Hr⟩⟩, ⟨%W, HO⟩, Ho⟩, Hk⟩
  iapply (wp_issues m c f _ Q) $$ [Hcp Hx Hb]
  · rw [along_idle]
    isplitl [Hcp]; · iexact Hcp
    isplitl [Hx] <;> iassumption
  iintro Hfl
  iapply (wp_signalPeer m K c _ (dev1_eq c) fr W _ Q) $$ [HO HtB Hr]
  · isplitr; · iexact HIbP
    isplitl [HO]; · iexact HO
    isplitl [HtB]; · iexact HtB
    isplitl [Hr]; · iexact Hr
    isplitr; · iexact HmR
    iexact HmBP
  iintro HO
  ihave Hfl := (Entails.of_eq (along_first (flight m c f))) $$ Hfl
  icases Hfl with ⟨H0, Hfl⟩
  iapply (wp_stepFirst m c f a _ Q) $$ [H0 Ha HO]
  · isplitl [H0]; · iexact H0
    isplitl [Ha]; · iexact Ha
    isplitl [HO]; · unfold owing; iexists W; iexact HO
    iexact Hlev
  iintro ⟨H0, Ha, HO⟩
  iapply (wp_steps m c f _ Q _ _) $$ [Hfl Ha HO]
  · isplitl [Hfl]; · iexact Hfl
    isplitl [Ha]; · iexact Ha
    isplitl [HO]; · iexact HO
    iexact Hlev
  iintro ⟨Hfl, Ha, HO⟩
  iapply (wp_exchange m K c Q)
  isplitl [Ha Hs Ho HO Hpl HtR HtS HcB HcR]
  · unfold exPre
    isplitl [Ha]; · iexact Ha
    isplitl [Hs]; · iexact Hs
    isplitl [Ho]; · iexact Ho
    isplitl [HO]; · iexact HO
    isplitr
    · isplitr; · iexact HIb
      isplitr; · iexact HIs
      isplitr; · iexact HIr
      isplitr; · iexact HIrP
      iexact HmS
    isplitl [Hpl]; · iexact Hpl
    isplitl [HtR]; · iexact HtR
    isplitl [HtS]; · iexact HtS
    isplitl [HcB]; · iexact HcB
    isplitl [HcR]; · iexact HcR
    iexact Hlev
  unfold exPost
  iintro ⟨Ha, Hs, Hr, Ho, HO, HzB, HzS, HzR⟩
  ihave Hd := (Entails.of_eq ((along_first (done m c)).symm.trans (along_done m c))) $$ [H0 Hfl]
  · isplitl [H0] <;> iassumption
  icases Hd with ⟨Hcp, Hx, Hb⟩
  iapply Hk
  unfold Φ₁ scratch
  isplitl [Hx HzB HzS HzR Hcp Hb Ha Hs Hr]
  · isplitl [Hx]; · iexact Hx
    isplitl [HzB]; · iexact HzB
    isplitl [HzS HzR Hcp]
    · isplitl [HzS]; · iexact HzS
      isplitl [HzR] <;> iassumption
    isplitl [Hb]; · iexists _; iexact Hb
    isplitl [Ha]; · iexists _; iexact Ha
    isplitl [Hs]; · iexists _; iexact Hs
    iexists _; iexact Hr
  isplitl [HO] <;> iassumption

end Whole

/-! ## The obligation -/

/-- The launch's data: the result array as it starts, `out` left in the staging buffer. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => out m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Owning the result's staging buffer at `o` is holding it at contents `o`. -/
theorem owns_stg (c : Dev nD) (o : Vec F S1x1024 .bf16) :
    (owns (Ix := Unit) (Name := ℕ) (U := UU) (Lvl := ℕ) (c : Thread nD τ) oM fullShare o : sProp 𝕄) = iprop(∃ f : Vec F S1x1024 .bf16, ⌜f = o⌝ ∗ oPts c f) := by
  unfold owns oPts; simp only [Memref.view_whole, View.read_whole, View.set_whole]
  rfl

/-- What the body is given, and what it gives back. -/
def bodyPre (c : Dev nD) : sProp 𝕄 :=
  iprop(Φ₀ m c ∗ (dats m ρ 0 c).owesAt () t0_0.castSucc ∗ (∃ d, owns (Ix := Unit) (Name := ℕ) (U := UU) (Lvl := ℕ) (c : Thread nD τ) oM fullShare ((dats m ρ 0 c).before (0 : Fin 1) t0_0 d)))
/-- What the body gives back: the final resources, nothing owed, the result in the staging buffer. -/
def bodyPost (c : Dev nD) : sProp 𝕄 :=
  iprop(Φ₁ m c ∗ (dats m ρ 0 c).owesAt () t0_0.succ ∗ owns (Ix := Unit) (Name := ℕ) (U := UU) (Lvl := ℕ) (c : Thread nD τ) oM fullShare (out m c))

/-- The body, as the launch asks for it: from what it is given to what it gives back. -/
theorem sound_body (c : Dev nD) : bodyPre m ρ c ⊢ wpc c body (fun _ => bodyPost m ρ c) := by
  unfold bodyPre bodyPost Dat.owesAt Pipeline.owesWithin
  simp only [owns_stg]
  iintro ⟨HΦ, ⟨%W, %hW, HO⟩, ⟨%d, %o, %ho, Ho⟩⟩
  iapply (wp_body m c fun _ => _)
  isplitl [HΦ HO Ho]
  · isplitl [HΦ]; · iexact HΦ
    isplitl [HO]; · iexists W; iexact HO
    iexists o; iexact Ho
  iintro ⟨HΦ, ⟨%W', HO⟩, Ho⟩
  isplitl [HΦ]; · iexact HΦ
  isplitl [HO]
  · iexists W'
    isplitr; · ipureintro; exact fun _ _ => Or.inl trivial
    iexact HO
  iexists _; isplitr; · (ipureintro; rfl)
  iexact Ho

set_option maxRecDepth 4000 in
/-- The launch's obligation on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = Φ (0 : Fin 1) from fun Φ => bigSep_W0 Φ,
    show ∀ Φ : Fin cfg0.W → sProp 𝕄, bigSep Finset.univ Φ = Φ (0 : Fin 1) from fun Φ => bigSep_W0 Φ]
  have h := sound_body m ρ c
  rw [← body_eq] at h
  exact h

end Cert.ColMax

end
-- ==== Proof.Run.lean ====
/-
The launch: the exchange's ghost state made, dealt to the devices and taken back, and the run of the program.
-/
module

public import proofs.«01_k».proof.Proof.Obligation
public import Idealize.ShloMosaic.Lib.Pipeline.ValueKit.Geometry
public import Idealize.ShloMosaic.Lib.Quiescent
public import Idealize.ShloMosaic.Lib.Pipeline.CollectiveSegs

@[expose] public section

noncomputable section

namespace Cert.ColMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own: the sixteen copies', the send and the receive. -/
abbrev osem (k : Fin 18) : SemLoc sig := if h : k.val < 16 then .dma (copySem ⟨k.val, h⟩) else if k = 16 then .dma sendS else .dma recvS
/-- They are pairwise different, scoped, and none of the staging buffer. -/
theorem ownSemFacts : Pipeline.OwnSemFacts cfg0.spec osem := by decide

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ copies c) := by
  unfold Pipeline.ownSems0 copies
  rw [show (Finset.univ : Finset (Fin 18)) = insert 16 (insert 17 (Finset.univ.map (Fin.castLEEmb (by decide : 16 ≤ 18)))) from by decide,
    bigSep_insert (by decide), bigSep_insert (by decide), bigSep_map, along_all]
  refine congrArg (fun P => iprop(_ ∗ _ ∗ P)) (bigSep_congr fun k _ => ?_)
  show semVal ((c : Thread nD τ), osem (Fin.castLE (by decide) k)) 0 = _
  rw [show osem (Fin.castLE (by decide) k) = .dma (copySem k) from dif_pos k.isLt]
omit [FloatOps F] in
/-- The one semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ghost state -/

/-- A device's three cells in the exchange, -/
abbrev cell (ck : Dev nD × Fin 3) : GSem nD τ sig := match ck.2 with | 0 => barCell ck.1 | 1 => sendCell ck.1 | 2 => recvCell ck.1
/-- different from one another, -/
theorem cell_injective : Function.Injective cell := by
  rintro ⟨c, k⟩ ⟨c', k'⟩ h
  have h1 : c = c' := by
    have := congrArg (fun g : GSem nD τ sig => g.1.1) h
    fin_cases k <;> fin_cases k' <;> exact this
  subst h1
  have : k = k' := by
    have h2 := congrArg (fun g : GSem nD τ sig => g.2) h
    fin_cases k <;> fin_cases k' <;> first
      | rfl
      | exact absurd h2 send_ne_bar
      | exact absurd h2.symm send_ne_bar
      | exact absurd h2 recv_ne_bar
      | exact absurd h2.symm recv_ne_bar
      | exact absurd h2 send_ne_recv
      | exact absurd h2 recv_ne_send
  subst this; rfl
/-- all devices', -/
def cells : Finset (GSem nD τ sig) := Finset.univ.map ⟨cell, cell_injective⟩
/-- and one duty token on each. -/
theorem tok_injective : Function.Injective (fun ck : Dev nD × Fin 3 => ((cell ck, 0, ()) : GSem nD τ sig × ℕ × Unit)) :=
  fun _ _ h => cell_injective (congrArg Prod.fst h)
/-- The tokens of all cells. -/
def cellToks : Finset (GSem nD τ sig × ℕ × Unit) := Finset.univ.map ⟨_, tok_injective⟩

/-- The launch's element: the staging cells' rounds, the exchange's, no counter. -/
def u₀ : UU := (initOf (Pipeline.cells cfgs cellOf_inj) (Pipeline.launchToks cfgs cellOf_inj), (initOf cells cellToks, 1))

omit [FloatOps F] in
/-- The launch's element splits into the staging cells' rounds and the exchange's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells, -/
def ownToks (c : Dev nD) : sProp 𝕄 := bigSep Finset.univ fun k : Fin 3 => dutyTok ER (cell (c, k)) 0 ()
/-- its places in its cells, -/
def ownPlaces (c : Dev nD) : sProp 𝕄 := bigSep Finset.univ fun k : Fin 3 => iprop(atPos ER (cell (c, k)) 0 ∅ 0 ∗ reached ER (cell (c, k)) 0)
/-- what it is dealt, -/
def G (c : Dev nD) : sProp 𝕄 := iprop((bigSep Finset.univ fun k : Fin 3 => roundState ER (sched m) (cell (c, k)) 0) ∗ ownPlaces c ∗ ownToks c)
/-- and what it holds once the invariants are made. -/
def G' (c : Dev nD) : sProp 𝕄 := iprop((∃ K, ghost m K c) ∗ copies c)

omit [FloatOps F] in
/-- A conjunction over three, written out. -/
theorem bigSep_three (Φ : Fin 3 → sProp 𝕄) : bigSep Finset.univ Φ = iprop(Φ 0 ∗ Φ 1 ∗ Φ 2) := bigSep_univ_eq_bigSepL [0, 1, 2] (by decide) (by decide) Φ

/-- The exchange's element pays for every device's deal. -/
theorem fund_cells : BI.own (ER (initOf cells cellToks)) ⊢ (|==> bigSep Finset.univ (G m) : sProp 𝕄) := by
  have hX (Φ : GSem nD τ sig → sProp 𝕄) : bigSep cells Φ = bigSep Finset.univ fun c : Dev nD => bigSep Finset.univ fun k : Fin 3 => Φ (cell (c, k)) := by
    unfold cells; rw [bigSep_map, bigSep_univ_prod]; rfl
  have hT : bigSep cellToks (fun x => (dutyTok ER x.1 x.2.1 x.2.2 : sProp 𝕄)) = bigSep Finset.univ fun c : Dev nD => ownToks c := by
    unfold cellToks; rw [bigSep_map, bigSep_univ_prod]; rfl
  iintro HX
  imod (Rounds.fund ER (sched m) cells cellToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ownPlaces; simp only [bigSep_sep']
  isplitl [Hst]; · iexact Hst
  isplitl [Hat Hr]
  · isplitl [Hat] <;> iassumption
  iexact Htok

/-- One device's three invariants made out of its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 3 => iprop(∃ κ : ℕ, cellInv ER (sched m) κ (cell (c, k)))) ∗ ownPlaces c ∗ ownToks c ∗ copies c) := by
  unfold G
  rw [ownSems0_eq, unscopedSems0_eq]
  iintro ⟨⟨HS, HR, Hcp⟩, HB, Hst, Hat, Htok⟩
  imod (show iprop((bigSep Finset.univ fun k : Fin 3 => semVal (cell (c, k)) 0) ∗ bigSep Finset.univ fun k : Fin 3 => roundState ER (sched m) (cell (c, k)) 0)
      ⊢ (|={Set.univ}=> bigSep Finset.univ fun k : Fin 3 => iprop(∃ κ : ℕ, cellInv ER (sched m) κ (cell (c, k))) : sProp 𝕄) from by
        rw [← bigSep_sep']
        exact (bigSep_mono fun k _ => (Rounds.body_intro ER (sched m) (cell (c, k))).trans inv_alloc).trans (bigSep_fupd _ _)) $$ [HS HR HB Hst] with Hinv
  · isplitl [HS HR HB]
    · rw [bigSep_three]
      isplitl [HB]; · iexact HB
      isplitl [HS] <;> iassumption
    iexact Hst
  imodintro
  isplitl [Hinv]; · iexact Hinv
  isplitl [Hat]; · iexact Hat
  isplitl [Htok] <;> iassumption

/-- The facts every device may copy: all invariants, all rounds reached. -/
def records (K : Dev nD × Fin 3 → ℕ) : sProp 𝕄 :=
  iprop((bigSep Finset.univ fun ck : Dev nD × Fin 3 => cellInv ER (sched m) (K ck) (cell ck)) ∗ bigSep Finset.univ fun ck : Dev nD × Fin 3 => reached ER (cell ck) 0)

/-- They may be copied: -/
instance records_persistent (K : Dev nD × Fin 3 → ℕ) : BI.Persistent (records m K) := by unfold records; infer_instance

/-- any cell's invariant is among them, -/
theorem inv_at (K : Dev nD × Fin 3 → ℕ) (ck : Dev nD × Fin 3) : records m K ⊢ cellInv ER (sched m) (K ck) (cell ck) := by
  unfold records
  iintro ⟨H, -⟩
  iapply (show (bigSep Finset.univ fun ck : Dev nD × Fin 3 => cellInv ER (sched m) (K ck) (cell ck) : sProp 𝕄) ⊢ _ from bigSep_elim (Finset.mem_univ ck))
  iexact H
/-- and any cell's first round. -/
theorem reached_at (K : Dev nD × Fin 3 → ℕ) (ck : Dev nD × Fin 3) : records m K ⊢ reached ER (cell ck) 0 := by
  unfold records
  iintro ⟨-, H⟩
  iapply (show (bigSep Finset.univ fun ck : Dev nD × Fin 3 => reached ER (cell ck) 0 : sProp 𝕄) ⊢ _ from bigSep_elim (Finset.mem_univ ck))
  iexact H

/-- What only device `c` holds. -/
def mine (c : Dev nD) : sProp 𝕄 := iprop(places c ∗ payToks c ∗ copies c)

/-- The common facts and a device's own share make its side of the exchange. -/
theorem ghost_intro (K : Dev nD × Fin 3 → ℕ) (c : Dev nD) : iprop(records m K ∗ mine c) ⊢ G' m c := by
  unfold mine G' ghost invs marks
  iintro ⟨#HR, Hp, Ht, Hc⟩
  isplitr [Hc]
  · iexists K
    isplitr
    · isplitr; · iapply (inv_at m K (c, 0)); iexact HR
      isplitr; · iapply (inv_at m K (c, 1)); iexact HR
      isplitr; · iapply (inv_at m K (c, 2)); iexact HR
      isplitr; · iapply (inv_at m K (peer c, 0)); iexact HR
      iapply (inv_at m K (peer c, 2)); iexact HR
    isplitr
    · isplitr; · iapply (reached_at m K (peer c, 0)); iexact HR
      isplitr; · iapply (reached_at m K (peer c, 2)); iexact HR
      isplitr; · iapply (reached_at m K (c, 1)); iexact HR
      iapply (reached_at m K (c, 2)); iexact HR
    isplitl [Hp] <;> iassumption
  iexact Hc

omit [FloatOps F] in
/-- The barrier and receive tokens handed across: each device pays its peer's. -/
theorem toks_swapped : (bigSep Finset.univ fun c : Dev nD => (ownToks c : sProp 𝕄)) ⊢ bigSep Finset.univ fun c : Dev nD => payToks c := by
  unfold ownToks payToks
  simp only [bigSep_three, bigSep_sep']
  rw [bigSep_univ_equiv swap (fun c : Dev nD => (dutyTok ER (cell (c, 0)) 0 () : sProp 𝕄)),
    bigSep_univ_equiv swap (fun c : Dev nD => (dutyTok ER (cell (c, 2)) 0 () : sProp 𝕄))]
  iintro ⟨HB, HS, HR⟩
  isplitl [HB]; · iexact HB
  isplitl [HR]; · iexact HR
  iexact HS

omit [FloatOps F] in
/-- A copyable fact goes to every conjunct. -/
theorem bigSep_copied {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants and tokens of all devices, dealt out: each device gets its side of the exchange. -/
theorem regroup :
    (bigSep Finset.univ fun c : Dev nD => iprop((bigSep Finset.univ fun k : Fin 3 => iprop(∃ κ : ℕ, cellInv ER (sched m) κ (cell (c, k)))) ∗ ownPlaces c ∗ ownToks c ∗ copies c) : sProp 𝕄)
      ⊢ bigSep Finset.univ (G' m) := by
  unfold ownPlaces
  simp only [bigSep_sep']
  rw [← bigSep_univ_prod (fun ck : Dev nD × Fin 3 => iprop(∃ κ : ℕ, cellInv ER (sched m) κ (cell ck))),
    ← bigSep_univ_prod (fun ck : Dev nD × Fin 3 => (reached ER (cell ck) 0 : sProp 𝕄))]
  iintro ⟨HI, ⟨Hat, #HR⟩, Htok, Hcp⟩
  ihave HK := (BI.bigSep_exists_pi Finset.univ (fun (ck : Dev nD × Fin 3) (κ : ℕ) => (cellInv ER (sched m) κ (cell ck) : sProp 𝕄))) $$ HI
  icases HK with ⟨%K, #HI⟩
  ihave Htk := (toks_swapped (F := F)) $$ Htok
  iapply (bigSep_copied (R := records m K) fun c _ => ghost_intro m K c)
  isplitr
  · unfold records; isplitl; · iexact HI
    iexact HR
  · unfold mine places
    simp only [bigSep_sep']
    ihave Hat := (Entails.of_eq (show (bigSep Finset.univ fun c : Dev nD => bigSep Finset.univ fun k : Fin 3 => (atPos ER (cell (c, k)) 0 ∅ 0 : sProp 𝕄)) = _ from by
      simp only [bigSep_three, bigSep_sep']; rfl)) $$ Hat
    isplitl [Hat]; · iexact Hat
    isplitl [Htk] <;> iassumption

/-- From every device's semaphores and deal to every device's side of the exchange. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Only its peer owes a device's barrier cell, one unit, -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun h1 => h (by rw [← peer_peer d]; exact congrArg peer (congrArg (fun g : GSem nD τ sig => g.1.1) h1.1).symm)), if_neg h]
/-- and its receive cell, the row's credit. -/
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun h1 => h (by rw [← peer_peer d]; exact congrArg peer (congrArg (fun g : GSem nD τ sig => g.1.1) h1.1).symm)), if_neg h]

/-- So what the launch credits to such a cell is that. -/
theorem launch_cell (c : Dev nD) (s : SemLoc sig) (n : ℕ) (h : ∀ d, O₀ d ((c : Thread nD τ), s) () = if d = peer c then n else 0) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n, if_pos (Finset.mem_univ _)]

omit [FloatOps F] in
/-- A device's launch credit holds one unit on its barrier cell and the row's credit on its receive cell. -/
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_cell c _ 1 fun d => owed_bar d c]
  refine sep_mono_right ?_
  rw [← launch_cell c (.dma recvS) N fun d => owed_recv d c]
  exact bigSep_elim (Finset.mem_erase.mpr ⟨recv_ne_bar, Finset.mem_univ _⟩)

/-! ## Into and out of the kernel -/

/-- What the launch leaves a device with is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨Hx, Hlev, Hcr, -, HG, Hcp⟩
  ihave Hc := (creds (F := F) c) $$ Hcr
  icases Hc with ⟨HB, HR⟩
  imodintro
  isplitl
  · isplitl [HG]; · iexact HG
    isplitl [HB]; · iexact HB
    isplitl [HR]; · iexact HR
    isplitl [Hlev]; · iexact Hlev
    isplitl [Hcp]; · iexact Hcp
    unfold argPts X; iexact Hx
  · iempintro

omit [FloatOps F] in
/-- The buffers scoped to the kernel are its four scratch buffers. -/
theorem scratch_eq (c : Dev nD) : (Pipeline.scopedRest cfg0.spec c : sProp 𝕄) = scratch c := by
  rw [scopedRest0_eq]
  unfold scratch
  simp only [sPts_eq, rPts_eq]; rfl

/-- Entering the kernel: the start and the scratch buffers, -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

/-- and leaving it: the block of `x`, the semaphores at zero and the scratch buffers. -/
theorem leave (c : Dev nD) :
    (dats m ρ 0 c).Φ (Fin.last cfg0.N) ⊢ iprop((argPts m c ∗ unscopedSems0 c) ∗ Pipeline.ownSems0 osem c ∗ Pipeline.scopedRest cfg0.spec c) := by
  rw [show (dats m ρ 0 c).Φ (Fin.last cfg0.N) = Φ₁ m c from rfl, scratch_eq, ownSems0_eq, unscopedSems0_eq]
  unfold Φ₁
  iintro ⟨Hx, HB, Ho, Hs⟩
  isplitl [Hx HB]
  · isplitl [Hx] <;> iassumption
  isplitl [Ho] <;> iassumption

/-- Every staged array is held in full. -/
theorem share_eq (c : Dev nD) (w : Fin cfg0.W) : (dats m ρ 0 c).share w = fullShare := by unfold Dat.share; split <;> rfl

omit [FloatOps F] in
/-- Owing nothing, a core may wait on any transfer, -/
theorem mayWait_none (c : Dev nD) (q : DmaSem sig) : (levAts L lv : sProp 𝕄) ⊢ MayWait (c : Thread nD τ) (.dma q) () 0 := by
  rw [MayWait_zero]; iintro -; iempintro

/-- so every wait of the result's write-back is allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait₀ c _ (by fin_cases w; fin_cases s <;> decide)
    · exact mayWait_none c _

/-! ## The run -/

/-- What the run leaves: on every device the result row, the block of `x` as it was, and every semaphore at zero. -/
def Final (s : MemSt nD τ sig (Elt F)) : Prop :=
  (∀ c : Dev nD, s.mem ((c : Thread nD τ).loc main_v1) = out m c ∧ s.mem ((c : Thread nD τ).loc main_arg0) = m ((c : Thread nD τ).loc main_arg0))
    ∧ s.sem = fun _ => 0

/-- The result array ends at the result row. -/
theorem result (c : Dev nD) : (dats (F := F) m ρ 0 c).arrAt (0 : Fin 1) cfg0.N = out m c :=
  (dats (F := F) m ρ 0 c).arrAt_eq_of_after_last (0 : Fin 1) t0_0 (by decide +kernel) _ fun j => rfl

/-- Reading the block of `x` and the unscoped semaphores off the final state. -/
theorem read_final (c : Dev nD) (s : Phys nD τ sig (Elt F)) :
    iprop((argPts m c ∗ unscopedSems0 c) ∗ emp ∗ SI s)
      ⊢ (|={Set.univ}=> iprop(⌜s.mem.mem ((c : Thread nD τ).loc main_arg0) = m ((c : Thread nD τ).loc main_arg0)
          ∧ ∀ sm : SemLoc sig, sm.isScoped .tc = false → s.mem.sem ((c.tc : Thread nD τ), sm) = 0⌝ ∗ SI s) : sProp 𝕄) := by
  iintro ⟨⟨Hx, Hu⟩, -, HSI⟩
  unfold argPts
  icombine HSI Hx gives %h
  imod (Pipeline.unscopedSems0_read (X := unscopedSems0 c) (c := c) fupd_intro s) $$ [Hu HSI] with ⟨%hu, HSI⟩
  · isplitl [Hu] <;> iassumption
  imodintro
  isplitr
  · ipureintro; exact ⟨Buf.eq_of_forall_mem_univ h, hu⟩
  iexact HSI

set_option maxRecDepth 8000 in
/-- Every run of the program ends, from any memory, with each device's result row computed, `x` unchanged and every
    semaphore at zero. -/
theorem run_main : θ_run defs (onTc (τ := τ) (main (F := F))) ⟨m, fun _ => 0, ρ⟩ (fun r => Final m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(argPts m c ∗ unscopedSems0 c)) (Z := fun _ => iprop(emp))
    (hX := start_intro m ρ) (hin := enter m ρ) (hout := leave m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := read_final m)
    (hQ := fun _ h hs => ⟨fun c => ⟨((h c).1 (0 : Fin 1)).trans (result m ρ c), (h c).2.2.1⟩, sem_eq_zero hs fun c => (h c).2.2.2⟩)

end Cert.ColMax

end
-- ==== Proof.Ref.lean ====
/-
The reference's run: three host operations, whose composed value is the maximum of each column of `x`.
-/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.Quiescent

@[expose] public section

noncomputable section

namespace Cert.ColMax

open Cert.ReferenceIdeal Cert.ReferenceIdeal.Gen
open Idealize.ShloMosaic Idealize.ShloMosaic.TcCoe Idealize.SL.Sem Idealize.ShloMosaic.StableHlo

variable {F : FTy → Type} [FloatOps F]

/-- The reference's result: over each column of `x`, the fold of the maximum from -∞, laid out as one row. -/
def refOut (x : FVec F S8192x2048 .bf16) : FVec F S1x2048 .bf16 :=
  broadcastInDim S1x2048 ![1] bcast_S2048_S1x2048_1
    (Host.reduce (FloatOps.maximumf (F := F) (φ := .bf16)) x (constant (F := F) S_ .bf16 0xFF80#16) reducesTo_S8192x2048_S2048_d0 h_S_)

/-- The reference's three operations, in order. -/
abbrev refOps : List (HloOp τ sig (Elt F)) :=
  [ nullary main_cst (constant S_ .bf16 0xFF80#16),
    binary main_arg0 main_cst main_v0 ((fun x v => Host.reduce FloatOps.maximumf x v reducesTo_S8192x2048_S2048_d0 h_S_) :
      (⟨S8192x2048, .bf16⟩ : BufTy).Contents (Elt F) → (⟨S_, .bf16⟩ : BufTy).Contents (Elt F) → (⟨S2048, .bf16⟩ : BufTy).Contents (Elt F)),
    unary main_v0 main_v1 (broadcastInDim S1x2048 ![1] bcast_S2048_S1x2048_1 :
      (⟨S2048, .bf16⟩ : BufTy).Contents (Elt F) → (⟨S1x2048, .bf16⟩ : BufTy).Contents (Elt F)) ]

/-- The printed reference is the straight line of those operations. -/
theorem ref_main_eq (c : Dev nD) : main (F := F) c = seq refOps := rfl

/-- The operations name only the buffers of the program. -/
theorem refOps_sub : (refOps : List (HloOp τ sig (Elt F))).Forall fun op => op.bufs ⊆ tcRefs τ sig :=
  ⟨nullary_bufs_sub .., binary_bufs_sub .., unary_bufs_sub ..⟩

/-- The reference runs, its result array ends at `refOut` of its argument, which is unchanged. -/
theorem run_ref (m : (ℓ : Loc nD τ sig) → Buf (Elt F) ℓ) (g : Dev nD → PrngReg) :
    θ_run (defs (F := F)) (onTc (τ := τ) (main (F := F))) ⟨m, fun _ => 0, g⟩ (fun r =>
      r.2.mem (((0 : Dev nD).tc : Thread nD τ).loc main_v1) = refOut (m (((0 : Dev nD).tc : Thread nD τ).loc main_arg0))
      ∧ r.2.mem (((0 : Dev nD).tc : Thread nD τ).loc main_arg0) = m (((0 : Dev nD).tc : Thread nD τ).loc main_arg0)) :=
  (θ_run defs _ _).mono (fun _ h => ⟨(h 0 main_v1).trans (by after_results; rfl), (h 0 main_arg0).trans (by after_results)⟩)
    (run_seq (by decide) (by decide) defs main (fun _ => refOps) ref_main_eq (fun _ => refOps_sub) m g)

/-- The reference runs, leaves its argument as it was and every semaphore at zero (it has none). -/
theorem frame_ref : Cert.quiescent_ReferenceIdeal := fun m g _ =>
  (θ_run defs _ _).mono (fun r h => ⟨fun c => (by obtain rfl : c = 0 := Subsingleton.elim _ _; exact h.2),
    Idealize.ShloMosaic.sem_eq_zero_of_no_sems (by decide) r.2⟩) (run_ref (F := Ideal) m g)

end Cert.ColMax
end
-- ==== Proof.Value.lean ====
/-
What the kernel's result is over the extended reals: every maximum below is named by its upper bounds (`v ≤ b` exactly
when each element it was taken over is `≤ b`), so the order and grouping of the folds drop out. Device `c`'s row is
the greatest element of each column of its block; with the peer's row it is the greatest element of the column of `x`.
-/
module

public import proofs.«01_k».proof.Proof.Run
public import proofs.«01_k».proof.Proof.Ref
public import Idealize.ShloMosaic.PureOps.Reduce
public import Idealize.ShloMosaic.PureOps.Ideal.Laws
public import Idealize.ShloMosaic.Lib.Pipeline.Value
public import Idealize.ShloMosaic.Lib.ValueIdxCore
public import Idealize.ShloMosaic.Lib.Layout

@[expose] public section

noncomputable section

namespace Cert.ColMax

open Cert.KernelIdeal Cert.KernelIdeal.Gen
open Idealize.ShloMosaic Idealize.ShloMosaic.TcCoe Idealize.ShloMosaic.ValueIdx
open Idealize.SL.Sem

/-! ## Maxima by their upper bounds -/

/-- The pattern every maximum starts from denotes -∞. -/
theorem negInf : Ideal.ofBits .bf16 0xFF80#16 = (⊥ : EReal) := by simp [Ideal.ofBits, Ideal.ieee]

/-- A fold of the maximum from -∞ over a set is bounded by what bounds each of its elements. -/
theorem fold_le {ι : Type} (S : Finset ι) (x : ι → Ideal .bf16) (b : EReal) :
    S.fold (FloatOps.maximumf (F := Ideal) (φ := .bf16)) (FloatOps.ofBits (F := Ideal) .bf16 0xFF80#16) x ≤ b ↔ ∀ i ∈ S, x i ≤ b := by
  have h : S.fold (FloatOps.maximumf (F := Ideal) (φ := .bf16)) (FloatOps.ofBits (F := Ideal) .bf16 0xFF80#16) x
      = S.fold max (⊥ : EReal) x := by
    rw [← negInf]; rfl
  rw [h, Finset.fold_max_le]
  simp

/-- A chunk's contribution at `(s, j)` is bounded by what bounds the chunk's elements in rows `≡ s` modulo eight of column `j`. -/
theorem red_le (v : Vec Ideal S256x1024 .bf16) (p : S8x1024.Idx) (b : EReal) :
    red v p ≤ b ↔ ∀ i : S256x1024.Idx, (i 0).val % 8 = (p 0).val → (i 1).val = (p 1).val → v i ≤ b := by
  unfold red
  refine (iff_of_eq (congrArg (· ≤ b) (multiReduction_maximumf_eq_fold _ _ _ _ _ _))).trans ((fold_le _ _ b).trans ?_)
  constructor
  · intro H i h0 h1
    have hi0 : (i 0).val < 256 := idx2_lt0 i
    have hi1 : (i 1).val < 1024 := idx2_lt1 i
    have := H (ix3 (n0 := 32) (n1 := 8) (n2 := 1024) ⟨(i 0).val / 8, by omega⟩ ⟨(i 0).val % 8, by omega⟩ ⟨(i 1).val, hi1⟩) (by
      simp only [Finset.mem_filter, Finset.mem_univ, true_and]
      funext a
      match a with
      | ⟨0, _⟩ => exact Fin.ext h0
      | ⟨1, _⟩ => exact Fin.ext h1)
    rwa [shapeCast_apply v _ _ i (by
      rw [Shape.rowMajor_val_two, Shape.rowMajor_val_three]
      show (i 0).val * 1024 + (i 1).val = ((i 0).val / 8 * 8 + (i 0).val % 8) * 1024 + (i 1).val
      omega)] at this
  · intro H q hq
    simp only [Finset.mem_filter, Finset.mem_univ, true_and] at hq
    subst hq
    have h0 : (q 0).val < 32 := (q 0).isLt
    have h1 : (q 1).val < 8 := (q 1).isLt
    have h2 : (q 2).val < 1024 := (q 2).isLt
    rw [shapeCast_apply v _ _ (ix2 (n0 := 256) (n1 := 1024) ⟨(q 0).val * 8 + (q 1).val, by omega⟩ ⟨(q 2).val, h2⟩) (by
      rw [Shape.rowMajor_val_two, Shape.rowMajor_val_three]
      rfl)]
    refine H _ ?_ rfl
    show ((q 0).val * 8 + (q 1).val) % 8 = (q 1).val
    omega

/-- The accumulator after the first chunk is that chunk's contribution. -/
theorem accFirst_eq (v : Vec Ideal S256x1024 .bf16) : accFirst v = red v := by
  unfold accFirst k0_pay3
  exact shapeCast_self _ _

/-- After a later chunk it is the larger of what it was and that chunk's contribution. -/
theorem accNext_apply (v : Vec Ideal S256x1024 .bf16) (a : Vec Ideal S8x1024 .bf16) (p : S8x1024.Idx) :
    accNext v a p = max (a p) (red v p) := by
  unfold accNext k0_pay4
  exact congrFun (shapeCast_self _ _) p

/-- Folding further chunks in bounds as the accumulator before and each chunk's contribution do. -/
theorem foldl_le (B : Fin 16 → Vec Ideal S256x1024 .bf16) (l : List (Fin 16)) (a : Vec Ideal S8x1024 .bf16) (p : S8x1024.Idx) (b : EReal) :
    l.foldl (fun a k => accNext (B k) a) a p ≤ b ↔ a p ≤ b ∧ ∀ k ∈ l, red (B k) p ≤ b := by
  induction l generalizing a with
  | nil => simp
  | cons k l ih =>
    rw [List.foldl_cons, ih, accNext_apply, max_le_iff, List.forall_mem_cons, and_assoc]

/-- The row sent, at column `j`, is bounded by what bounds the accumulator's column `j`. -/
theorem toRow_le (a : Vec Ideal S8x1024 .bf16) (j : S1x1024.Idx) (b : EReal) :
    toRow a j ≤ b ↔ ∀ p : S8x1024.Idx, (p 1).val = (j 1).val → a p ≤ b := by
  have e : toRow a j = k0_pay22 a (fun c => j c.succ) := by
    unfold toRow k0_pay1
    exact shapeCast_addUnit_apply ![1024] (k0_pay22 a) _ j
  rw [e]
  unfold k0_pay22
  refine (iff_of_eq (congrArg (· ≤ b) (multiReduction_maximumf_eq_fold _ _ _ _ _ _))).trans ((fold_le _ _ b).trans ?_)
  simp only [Finset.mem_filter, Finset.mem_univ, true_and]
  refine forall_congr' fun p => imp_congr_left ⟨fun h => ?_, fun h => ?_⟩
  · exact congrArg Fin.val (congrFun h 0)
  · funext c
    match c with
    | ⟨0, _⟩ => exact Fin.ext h

variable (m : (ℓ : Loc nD τ sig) → Buf (Elt Ideal) ℓ)

/-- Device `c`'s block of `x`, as an array of extended reals. -/
def xblk (c : Dev nD) : FVec Ideal S4096x1024 .bf16 := X m c

/-- Element `(r, j)` of chunk `k` is element `(256 k + r, j)` of the device's block. -/
theorem blk_apply (c : Dev nD) (k : Fin 16) (i : S256x1024.Idx) (q : S4096x1024.Idx) (h0 : (q 0).val = 256 * k.val + (i 0).val)
    (h1 : (q 1).val = (i 1).val) : blk m c k i = xblk m c q := by
  have hq : q = (chunk k).idx i := by
    funext a
    apply Fin.ext
    match a with
    | ⟨0, _⟩ => refine h0.trans ?_; show _ = 256 * k.val + 1 * (i 0).val; omega
    | ⟨1, _⟩ => refine h1.trans ?_; show _ = 0 + 1 * (i 1).val; omega
  rw [hq]
  rfl

/-- Device `c`'s row, at column `j`, is bounded by what bounds its block's column `j`. -/
theorem row_le (c : Dev nD) (j : S1x1024.Idx) (b : EReal) :
    row m c j ≤ b ↔ ∀ q : S4096x1024.Idx, (q 1).val = (j 1).val → xblk m c q ≤ b := by
  unfold row acc
  rw [toRow_le]
  simp only [foldl_le, accFirst_eq, red_le]
  constructor
  · intro H q hq
    have q0 : (q 0).val < 4096 := idx2_lt0 q
    have q1 : (q 1).val < 1024 := idx2_lt1 q
    let k : Fin 16 := ⟨(q 0).val / 256, by omega⟩
    let i : S256x1024.Idx := ix2 (n0 := 256) (n1 := 1024) ⟨(q 0).val % 256, by omega⟩ ⟨(q 1).val, q1⟩
    have e : blk m c k i = xblk m c q := blk_apply m c k i q (by show (q 0).val = 256 * ((q 0).val / 256) + (q 0).val % 256; omega) rfl
    have hp := H (ix2 (n0 := 8) (n1 := 1024) ⟨(q 0).val % 256 % 8, by omega⟩ ⟨(q 1).val, q1⟩) hq
    have hk : k = 0 ∨ k ∈ ([1, 2, 3, 4, 5, 6, 7, 8, 9, 10, 11, 12, 13, 14, 15] : List (Fin 16)) := by
      generalize k = k; revert k; decide
    rw [← e]
    rcases hk with hk | hk
    · rw [hk]; exact hp.1 i rfl rfl
    · exact hp.2 k hk i rfl rfl
  · intro H p hp
    have all : ∀ (k : Fin 16) (i : S256x1024.Idx), (i 1).val = (p 1).val → blk m c k i ≤ b := fun k i hi => by
      have i0 : (i 0).val < 256 := idx2_lt0 i
      have i1 : (i 1).val < 1024 := idx2_lt1 i
      have hk := k.isLt
      rw [blk_apply m c k i (ix2 (n0 := 4096) (n1 := 1024) ⟨256 * k.val + (i 0).val, by omega⟩ ⟨(i 1).val, i1⟩) rfl rfl]
      exact H (ix2 _ _) (hi.trans hp)
    exact ⟨fun i _ hi => all 0 i hi, fun k _ i _ hi => all k i hi⟩

/-- The kernel's result at column `j` is bounded by what bounds the column `j` of the device's block and of its peer's. -/
theorem out_le (c : Dev nD) (j : S1x1024.Idx) (b : EReal) :
    out m c j ≤ b ↔ ∀ d, d = c ∨ d = peer c → ∀ q : S4096x1024.Idx, (q 1).val = (j 1).val → xblk m d q ≤ b := by
  have e : out m c j = max (row m c j) (row m (peer c) j) := rfl
  rw [e, max_le_iff, row_le, row_le]
  exact ⟨fun H d hd => hd.elim (fun h => h ▸ H.1) (fun h => h ▸ H.2), fun H => ⟨H c (.inl rfl), H _ (.inr rfl)⟩⟩

/-- The reference's result at column `J` is bounded by what bounds the column `J` of `x`. -/
theorem refOut_le (x : FVec Ideal Cert.ReferenceIdeal.S8192x2048 .bf16) (J : Cert.ReferenceIdeal.S1x2048.Idx) (b : EReal) :
    refOut x J ≤ b ↔ ∀ Q : Cert.ReferenceIdeal.S8192x2048.Idx, (Q 1).val = (J 1).val → x Q ≤ b := by
  unfold refOut broadcastInDim
  rw [Host.reduce_eq_fold]
  refine (fold_le _ x b).trans ?_
  simp only [Finset.mem_filter, Finset.mem_univ, true_and]
  refine forall_congr' fun p => imp_congr_left ⟨fun h => ?_, fun h => ?_⟩
  · exact congrArg Fin.val (congrFun h 0)
  · funext c
    match c with
    | ⟨0, _⟩ => exact Fin.ext h

/-! ## The two results -/

/-- Where every device's block is its part of `x`, every device's result is its part of the reference's result. -/
theorem out_eq (x : FVec Ideal Cert.ReferenceIdeal.S8192x2048 .bf16)
    (hx : ∀ c : Dev nD, xblk m c = Layout.blockN ⟨2, ![4096, 1024]⟩ ⟨2, ![8192, 2048]⟩ (Layout.meshBlock [2, 2] ![[0], [1]] c) x) (c : Dev nD) :
    out m c = Layout.blockN ⟨2, ![1, 1024]⟩ ⟨2, ![1, 2048]⟩ (Layout.meshBlock [2, 2] ![[], [1]] c) (refOut x) := by
  funext j
  rw [Layout.blockN_apply]
  refine eq_of_forall_ge_iff fun b => ?_
  rw [out_le, refOut_le]
  have j1 : (j 1).val < 1024 := idx2_lt1 j
  -- device `d` is at row `d / 2` and column `d % 2` of the mesh
  have r0 : ∀ d : Dev nD, Layout.meshLin [2, 2] d.val [0] = d.val / 2 := by decide
  have r1 : ∀ d : Dev nD, Layout.meshLin [2, 2] d.val [1] = d.val % 2 := by decide
  have hp : ∀ c : Dev nD, (peer c).val = (c.val + 2) % 4 := by decide
  constructor
  · intro H Q hQ
    have Q0 : (Q 0).val < 8192 := idx2_lt0 Q
    replace hQ : (Q 1).val = Layout.meshLin [2, 2] c.val [1] * 1024 + (j 1).val := hQ
    rw [r1] at hQ
    have hc : c.val < 4 := c.isLt
    let d : Dev nD := ⟨(Q 0).val / 4096 * 2 + c.val % 2, by show _ < 4; omega⟩
    have hd : d = c ∨ d = peer c := by
      have h := hp c
      have : (Q 0).val / 4096 * 2 + c.val % 2 = c.val ∨ (Q 0).val / 4096 * 2 + c.val % 2 = (peer c).val := by omega
      exact this.imp Fin.ext Fin.ext
    have := H d hd (ix2 (n0 := 4096) (n1 := 1024) ⟨(Q 0).val % 4096, by omega⟩ ⟨(j 1).val, j1⟩) rfl
    rw [hx, Layout.blockN_apply] at this
    refine le_of_eq_of_le (congrArg x ?_) this
    funext a
    apply Fin.ext
    rw [Layout.TilesN.idx_val]
    match a with
    | ⟨0, _⟩ =>
      show (Q 0).val = Layout.meshLin [2, 2] d.val [0] * 4096 + (Q 0).val % 4096
      rw [r0]; show _ = ((Q 0).val / 4096 * 2 + c.val % 2) / 2 * 4096 + _; omega
    | ⟨1, _⟩ =>
      show (Q 1).val = Layout.meshLin [2, 2] d.val [1] * 1024 + (j 1).val
      rw [r1, hQ]; show _ = ((Q 0).val / 4096 * 2 + c.val % 2) % 2 * 1024 + _; omega
  · intro H d hd q hq
    rw [hx, Layout.blockN_apply]
    refine H _ ?_
    show Layout.meshLin [2, 2] d.val [1] * 1024 + (q 1).val = Layout.meshLin [2, 2] c.val [1] * 1024 + (j 1).val
    rw [r1, r1, hq]
    have h := hp c
    rcases hd with rfl | rfl <;> omega

end Cert.ColMax
end
-- ==== Proof.lean ====
/-
The certificate's claims, assembled: the kernel's run (Proof/Run.lean, for any float instance) gives both of its frames
and, with the value equation (Proof/Value.lean), the equality over the extended reals with the reference
(Proof/Ref.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Lib.Tactic
public import Idealize.ShloMosaic.Adequacy
public import Idealize.ShloMosaic.Init

@[expose] public section

noncomputable section

namespace Cert.Proof

open Idealize.ShloMosaic Idealize.SL.Sem

open Cert.ColMax (run_main run_ref frame_ref out_eq refOut)

variable {F : FTy → Type} [FloatOps F]

/-- The kernel as printed and the idealized kernel are one text: the same body table, -/
theorem defs_same : Cert.Kernel.defs (F := F) = Cert.KernelIdeal.defs (F := F) := by sl_kernel_rfl

/-- and the same entry point. -/
theorem main_same : Cert.Kernel.main (F := F) = Cert.KernelIdeal.main (F := F) := rfl

/-- The kernel as printed runs on the four devices, at the machine's own formats; each block of `x` ends unchanged and
    every semaphore at zero. Its program is the idealized one's text, whose run is proved for every float instance. -/
theorem frame_kernel : Cert.quiescent_Kernel := fun m g _ => by
  rw [defs_same, main_same]
  exact (θ_run Cert.KernelIdeal.defs _ _).mono (fun _ h => ⟨fun c => (h.1 c).2, h.2⟩) (run_main (F := Bits) m g)

/-- The same over the extended reals. -/
theorem frame_ideal : Cert.quiescent_KernelIdeal := fun m g _ =>
  (θ_run Cert.KernelIdeal.defs _ _).mono (fun _ h => ⟨fun c => (h.1 c).2, h.2⟩) (run_main (F := Ideal) m g)

/-- Over the extended reals, where the devices hold their blocks of `x`, each ends with its part of the row of `x`'s
    column maxima, which is what the reference computes. -/
theorem value : Cert.algebraic_KernelIdeal_ReferenceIdeal := fun m g m' g' _ hx =>
  ⟨refOut (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (out_eq m _ hx c), (h.1 c).2⟩) (run_main (F := Ideal) m g),
    run_ref (F := Ideal) m' g'⟩

/-- Every claim of the certificate. -/
theorem claim : Cert.Claim :=
  ⟨Cert.Kernel.Gen.facts, Cert.KernelIdeal.Gen.facts, Cert.ReferenceIdeal.Gen.facts, frame_kernel, frame_ideal, frame_ref, trivial, value⟩

end Cert.Proof

end
